-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_not_below_neg [hPre_logits_not_below_neg : Cert.Pre_logits_not_below_neg.Facts] (m : (ℓ : Loc Cert.KernelIdeal.nD Cert.KernelIdeal.τ Cert.KernelIdeal.sig) → Buf (Elt Ideal) ℓ) : Prop :=
  ∀ c : Dev Cert.KernelIdeal.nD,
    (Cert.Pre_logits_not_below_neg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_not_below_neg [hPre_logits_not_below_neg : Cert.Pre_logits_not_below_neg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_not_below_neg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_logits_not_below_neg [hKernelIdeal : Cert.KernelIdeal.Facts] [hPre_logits_not_below_neg : Cert.Pre_logits_not_below_neg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_not_below_neg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_logits_not_below_neg [hReferenceIdeal : Cert.ReferenceIdeal.Facts] [hPre_logits_not_below_neg : Cert.Pre_logits_not_below_neg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_not_below_neg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_logits_not_below_neg [hKernelIdeal : Cert.KernelIdeal.Facts] [hReferenceIdeal : Cert.ReferenceIdeal.Facts] [hPre_logits_not_below_neg : Cert.Pre_logits_not_below_neg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_not_below_neg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_logits_not_below_neg : Cert.Pre_logits_not_below_neg.Facts),
    quiescent_Kernel (hKernel := hKernel)
    ∧ quiescent_KernelIdeal (hKernelIdeal := hKernelIdeal)
    ∧ quiescent_KernelIdeal_pre_logits_not_below_neg (hKernelIdeal := hKernelIdeal) (hPre_logits_not_below_neg := hPre_logits_not_below_neg)
    ∧ quiescent_ReferenceIdeal (hReferenceIdeal := hReferenceIdeal)
    ∧ quiescent_ReferenceIdeal_pre_logits_not_below_neg (hReferenceIdeal := hReferenceIdeal) (hPre_logits_not_below_neg := hPre_logits_not_below_neg)
    ∧ preserves_Kernel_KernelIdeal
    ∧ algebraic_KernelIdeal_ReferenceIdeal_pre_logits_not_below_neg (hKernelIdeal := hKernelIdeal) (hReferenceIdeal := hReferenceIdeal) (hPre_logits_not_below_neg := hPre_logits_not_below_neg)
-- ==== Pre_logits_not_below_neg.lean ====
abbrev S20000x4 : Shape := ⟨2, ![20000, 4]⟩
abbrev S20000 : Shape := ⟨1, ![20000]⟩
abbrev S_ : Shape := ⟨0, ![]⟩

class Facts : Prop where
  bcast_S_S20000 : S_.BroadcastsInDim S20000 (![] : Fin 0 → Fin S20000.rank)

variable [Facts]

def fn {F : FTy → Type} [FloatOps F] (main_arg0 : FVec F S20000x4 .f32) (main_arg1 : FVec F S20000 .f32) (main_arg2 : FVec F S20000x4 .f32) : IVec S20000 1 :=
  let main_cst : FVec F S_ .f32 := constant S_ .f32 0xD01502F9#32
  let main_v0 : FVec F S20000 .f32 := broadcastInDim S20000 ![] bcast_S_S20000 main_cst
  let main_v1 : IVec S20000 1 := cmpf .oge main_arg1 main_v0
  main_v1
-- ==== Kernel.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S2000x4 : Shape := ⟨2, ![2000, 4]⟩
abbrev S2048x4 : Shape := ⟨2, ![2048, 4]⟩
abbrev S2048 : Shape := ⟨1, ![2048]⟩
abbrev S1x2048 : Shape := ⟨2, ![1, 2048]⟩
abbrev S4x2048 : Shape := ⟨2, ![4, 2048]⟩
abbrev S8x2048 : Shape := ⟨2, ![8, 2048]⟩
abbrev S2048x2048 : Shape := ⟨2, ![2048, 2048]⟩
abbrev S2048x1 : Shape := ⟨2, ![2048, 1]⟩
abbrev S256x1 : Shape := ⟨2, ![256, 1]⟩
abbrev S256x2048 : Shape := ⟨2, ![256, 2048]⟩
abbrev S1x256 : Shape := ⟨2, ![1, 256]⟩
abbrev S256x256 : Shape := ⟨2, ![256, 256]⟩
abbrev S1 : Shape := ⟨1, ![1]⟩
abbrev S1x1 : Shape := ⟨2, ![1, 1]⟩
abbrev S1x1792 : Shape := ⟨2, ![1, 1792]⟩
abbrev S2048x256 : Shape := ⟨2, ![2048, 256]⟩
abbrev S1x1536 : Shape := ⟨2, ![1, 1536]⟩
abbrev S1x512 : Shape := ⟨2, ![1, 512]⟩
abbrev S1x1280 : Shape := ⟨2, ![1, 1280]⟩
abbrev S1x768 : Shape := ⟨2, ![1, 768]⟩
abbrev S1x1024 : Shape := ⟨2, ![1, 1024]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 57
  | .vmem => 8
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000x4, .f32⟩
  | .hbm, ⟨3, _⟩ => ⟨S2000, .f32⟩
  | .hbm, ⟨4, _⟩ => ⟨S2000, .i32⟩
  | .hbm, ⟨5, _⟩ => ⟨S_, .i32⟩
  | .hbm, ⟨6, _⟩ => ⟨S2000, .i32⟩
  | .hbm, ⟨7, _⟩ => ⟨S2000, .i1⟩
  | .hbm, ⟨8, _⟩ => ⟨S_, .i32⟩
  | .hbm, ⟨9, _⟩ => ⟨S2000, .i32⟩
  | .hbm, ⟨10, _⟩ => ⟨S2000, .i32⟩
  | .hbm, ⟨11, _⟩ => ⟨S2000, .i32⟩
  | .hbm, ⟨12, _⟩ => ⟨S2000x1, .i32⟩
  | .hbm, ⟨13, _⟩ => ⟨S2000x4, .f32⟩
  | .hbm, ⟨14, _⟩ => ⟨S_, .i32⟩
  | .hbm, ⟨15, _⟩ => ⟨S2000, .i32⟩
  | .hbm, ⟨16, _⟩ => ⟨S2000, .i1⟩
  | .hbm, ⟨17, _⟩ => ⟨S_, .i32⟩
  | .hbm, ⟨18, _⟩ => ⟨S2000, .i32⟩
  | .hbm, ⟨19, _⟩ => ⟨S2000, .i32⟩
  | .hbm, ⟨20, _⟩ => ⟨S2000, .i32⟩
  | .hbm, ⟨21, _⟩ => ⟨S2000x1, .i32⟩
  | .hbm, ⟨22, _⟩ => ⟨S2000x4, .f32⟩
  | .hbm, ⟨23, _⟩ => ⟨S_, .i32⟩
  | .hbm, ⟨24, _⟩ => ⟨S_, .f32⟩
  | .hbm, ⟨25, _⟩ => ⟨S2048x4, .f32⟩
  | .hbm, ⟨26, _⟩ => ⟨S_, .i32⟩
  | .hbm, ⟨27, _⟩ => ⟨S_, .f32⟩
  | .hbm, ⟨28, _⟩ => ⟨S2048x4, .f32⟩
  | .hbm, ⟨29, _⟩ => ⟨S_, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4x2048, .f32⟩
  | .hbm, ⟨34, _⟩ => ⟨S_, .i32⟩
  | .hbm, ⟨35, _⟩ => ⟨S_, .f32⟩
  | .hbm, ⟨36, _⟩ => ⟨S8x2048, .f32⟩
  | .hbm, ⟨37, _⟩ => ⟨S4x2048, .f32⟩
  | .hbm, ⟨38, _⟩ => ⟨S_, .i32⟩
  | .hbm, ⟨39, _⟩ => ⟨S_, .f32⟩
  | .hbm, ⟨40, _⟩ => ⟨S8x2048, .f32⟩
  | .hbm, ⟨41, _⟩ => ⟨S2048x4, .f32⟩
  | .hbm, ⟨42, _⟩ => ⟨S1x2048, .f32⟩
  | .hbm, ⟨43, _⟩ => ⟨S2048, .f32⟩
  | .hbm, ⟨44, _⟩ => ⟨S1000, .f32⟩
  | .hbm, ⟨45, _⟩ => ⟨S1000, .i32⟩
  | .hbm, ⟨46, _⟩ => ⟨S_, .i32⟩
  | .hbm, ⟨47, _⟩ => ⟨S1000, .i32⟩
  | .hbm, ⟨48, _⟩ => ⟨S1000, .i1⟩
  | .hbm, ⟨49, _⟩ => ⟨S_, .i32⟩
  | .hbm, ⟨50, _⟩ => ⟨S1000, .i32⟩
  | .hbm, ⟨51, _⟩ => ⟨S1000, .i32⟩
  | .hbm, ⟨52, _⟩ => ⟨S1000, .i32⟩
  | .hbm, ⟨53, _⟩ => ⟨S1000x1, .i32⟩
  | .hbm, ⟨54, _⟩ => ⟨S1000x4, .f32⟩
  | .hbm, ⟨55, _⟩ => ⟨S1000x1, .f32⟩
  | .hbm, ⟨56, _⟩ => ⟨S1000x5, .f32⟩
  | .local _ .vmem, ⟨0, _⟩ => ⟨S2048x4, .f32⟩
  | .local _ .vmem, ⟨1, _⟩ => ⟨S2048x4, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S2048x4, .f32⟩
  | .local _ .vmem, ⟨6, _⟩ => ⟨S1x2048, .f32⟩
  | .local _ .vmem, ⟨7, _⟩ => ⟨S2048x2048, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_call0_v0 : Ref sig .tc := ⟨.hbm, 24, rfl⟩
abbrev main_v14 : Ref sig .tc := ⟨.hbm, 25, rfl⟩
abbrev main_c_4 : Ref sig .tc := ⟨.hbm, 26, rfl⟩
abbrev main_call1_v0 : Ref sig .tc := ⟨.hbm, 27, rfl⟩
abbrev main_v15 : Ref sig .tc := ⟨.hbm, 28, rfl⟩
abbrev main_cst : Ref sig .tc := ⟨.hbm, 29, rfl⟩
abbrev main_call2_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_call3_v0 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_call4_v0 : Ref sig .tc := ⟨.hbm, 39, rfl⟩
abbrev main_v21 : Ref sig .tc := ⟨.hbm, 40, rfl⟩
abbrev main_v22_0 : Ref sig .tc := ⟨.hbm, 41, rfl⟩
abbrev main_v22_1 : Ref sig .tc := ⟨.hbm, 42, rfl⟩
abbrev main_v23 : Ref sig .tc := ⟨.hbm, 43, rfl⟩
abbrev main_values_7 : Ref sig .tc := ⟨.hbm, 44, rfl⟩
abbrev main_indices_8 : Ref sig .tc := ⟨.hbm, 45, rfl⟩
abbrev main_c_9 : Ref sig .tc := ⟨.hbm, 46, rfl⟩
abbrev main_v24 : Ref sig .tc := ⟨.hbm, 47, rfl⟩
abbrev main_v25 : Ref sig .tc := ⟨.hbm, 48, rfl⟩
abbrev main_c_10 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v461 : BitVec 32 := Scalar.addi c0_i32 c256_i32
  let c1_i32 : BitVec 32 := 1#32
  ⟨c0_i32, v461, c1_i32⟩
@[reducible] def k0_t2_loop : Scf.Loop 32 :=
  let c0_i32_100 : BitVec 32 := 0#32
  let c256_i32_101 : BitVec 32 := 256#32
  let v478 : BitVec 32 := Scalar.addi c0_i32_100 c256_i32_101
  let c1_i32_102 : BitVec 32 := 1#32
  ⟨c0_i32_100, v478, c1_i32_102⟩
@[reducible] def k0_t3_loop : Scf.Loop 32 :=
  let c0_i32_112 : BitVec 32 := 0#32
  let c256_i32_113 : BitVec 32 := 256#32
  let v496 : BitVec 32 := Scalar.addi c0_i32_112 c256_i32_113
  let c1_i32_114 : BitVec 32 := 1#32
  ⟨c0_i32_112, v496, c1_i32_114⟩
@[reducible] def k0_t4_loop : Scf.Loop 32 :=
  let c0_i32_124 : BitVec 32 := 0#32
  let c256_i32_125 : BitVec 32 := 256#32
  let v514 : BitVec 32 := Scalar.addi c0_i32_124 c256_i32_125
  let c1_i32_126 : BitVec 32 := 1#32
  ⟨c0_i32_124, v514, c1_i32_126⟩
@[reducible] def k0_t5_loop : Scf.Loop 32 :=
  let c0_i32_136 : BitVec 32 := 0#32
  let c256_i32_137 : BitVec 32 := 256#32
  let v532 : BitVec 32 := Scalar.addi c0_i32_136 c256_i32_137
  let c1_i32_138 : BitVec 32 := 1#32
  ⟨c0_i32_136, v532, c1_i32_138⟩
@[reducible] def k0_t6_loop : Scf.Loop 32 :=
  let c0_i32_148 : BitVec 32 := 0#32
  let c256_i32_149 : BitVec 32 := 256#32
  let v550 : BitVec 32 := Scalar.addi c0_i32_148 c256_i32_149
  let c1_i32_150 : BitVec 32 := 1#32
  ⟨c0_i32_148, v550, c1_i32_150⟩
@[reducible] def k0_t7_loop : Scf.Loop 32 :=
  let c0_i32_160 : BitVec 32 := 0#32
  let c256_i32_161 : BitVec 32 := 256#32
  let v568 : BitVec 32 := Scalar.addi c0_i32_160 c256_i32_161
  let c1_i32_162 : BitVec 32 := 1#32
  ⟨c0_i32_160, v568, c1_i32_162⟩
@[reducible] def k0_t8_loop : Scf.Loop 32 :=
  let c0_i32_172 : BitVec 32 := 0#32
  let c256_i32_173 : BitVec 32 := 256#32
  let v586 : BitVec 32 := Scalar.addi c0_i32_172 c256_i32_173
  let c1_i32_174 : BitVec 32 := 1#32
  ⟨c0_i32_172, v586, c1_i32_174⟩
abbrev stage0_0 : Fin 1 → Memref sig .tc .vmem S2048x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S2000 : Shape := ⟨1, ![2000]⟩
abbrev S2000x1 : Shape := ⟨2, ![2000, 1]⟩
abbrev S2000x4 : Shape := ⟨2, ![2000, 4]⟩
abbrev S2000x2 : Shape := ⟨2, ![2000, 2]⟩
abbrev S2000x1x2 : Shape := ⟨3, ![2000, 1, 2]⟩
abbrev S1x2000x2 : Shape := ⟨3, ![1, 2000, 2]⟩
abbrev S2000x2000x2 : Shape := ⟨3, ![2000, 2000, 2]⟩
abbrev S2000x2000x1 : Shape := ⟨3, ![2000, 2000, 1]⟩
abbrev S2000x2000 : Shape := ⟨2, ![2000, 2000]⟩
abbrev S1x2000 : Shape := ⟨2, ![1, 2000]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 255
  | .vmem => 0
  | .smem => 0
  | _ => 0

abbrev hbmTy0_0 (i : Nat) : BufTy := match i % 128 with
  | 0 => ⟨S20000x4, .f32⟩
  | 1 => ⟨S20000, .f32⟩
  | 2 => ⟨S20000x4, .f32⟩
  | 3 => ⟨S20000x1, .f32⟩
  | 4 => ⟨S20000, .f32⟩
  | 5 => ⟨S20000x1, .f32⟩
  | 6 => ⟨S20000, .f32⟩
  | 7 => ⟨S20000, .f32⟩
  | 8 => ⟨S20000x1, .f32⟩
  | 9 => ⟨S20000, .f32⟩
  | 10 => ⟨S20000x1, .f32⟩
  | 11 => ⟨S20000, .f32⟩
  | 12 => ⟨S20000, .f32⟩
  | 13 => ⟨S20000x1, .f32⟩
  | 14 => ⟨S20000, .f32⟩
  | 15 => ⟨S_, .f32⟩
  | 16 => ⟨S20000, .f32⟩
  | 17 => ⟨S20000, .f32⟩
  | 18 => ⟨S20000, .f32⟩
  | 19 => ⟨S20000x1, .f32⟩
  | 20 => ⟨S20000, .f32⟩
  | 21 => ⟨S_, .f32⟩
  | 22 => ⟨S20000, .f32⟩
  | 23 => ⟨S20000, .f32⟩
  | 24 => ⟨S20000, .f32⟩
  | 25 => ⟨S20000x1, .f32⟩
  | 26 => ⟨S20000, .f32⟩
  | 27 => ⟨S20000x1, .f32⟩
  | 28 => ⟨S20000, .f32⟩
  | 29 => ⟨S20000x1, .f32⟩
  | 30 => ⟨S20000, .f32⟩
  | 31 => ⟨S20000x1, .f32⟩
  | 32 => ⟨S20000, .f32⟩
  | 33 => ⟨S_, .f32⟩
  | 34 => ⟨S20000, .f32⟩
  | 35 => ⟨S20000, .f32⟩
  | 36 => ⟨S_, .f32⟩
  | 37 => ⟨S20000, .f32⟩
  | 38 => ⟨S20000, .f32⟩
  | 39 => ⟨S20000, .f32⟩
  | 40 => ⟨S20000, .f32⟩
  | 41 => ⟨S20000, .f32⟩
  | 42 => ⟨S20000, .f32⟩
  | 43 => ⟨S20000, .f32⟩
  | 44 => ⟨S20000, .f32⟩
  | 45 => ⟨S20000, .f32⟩
  | 46 => ⟨S20000, .f32⟩
  | 47 => ⟨S_, .f32⟩
  | 48 => ⟨S20000, .f32⟩
  | 49 => ⟨S20000, .f32⟩
  | 50 => ⟨S20000, .f32⟩
  | 51 => ⟨S_, .f32⟩
  | 52 => ⟨S20000, .f32⟩
  | 53 => ⟨S20000, .f32⟩
  | 54 => ⟨S20000, .f32⟩
  | 55 => ⟨S_, .f32⟩
  | 56 => ⟨S20000, .f32⟩
  | 57 => ⟨S20000, .f32⟩
  | 58 => ⟨S20000, .f32⟩
  | 59 => ⟨S_, .f32⟩
  | 60 => ⟨S20000, .f32⟩
  | 61 => ⟨S20000, .f32⟩
  | 62 => ⟨S20000, .f32⟩
  | 63 => ⟨S20000x1, .f32⟩
  | 64 => ⟨S20000x1, .f32⟩
  | 65 => ⟨S20000x1, .f32⟩
  | 66 => ⟨S20000x1, .f32⟩
  | 67 => ⟨S20000x4, .f32⟩
  | 68 => ⟨S2000, .f32⟩
  | 69 => ⟨S2000, .i32⟩
  | 70 => ⟨S_, .i32⟩
  | 71 => ⟨S2000, .i32⟩
  | 72 => ⟨S2000, .i1⟩
  | 73 => ⟨S_, .i32⟩
  | 74 => ⟨S2000, .i32⟩
  | 75 => ⟨S2000, .i32⟩
  | 76 => ⟨S2000, .i32⟩
  | 77 => ⟨S2000x1, .i32⟩
  | 78 => ⟨S2000x4, .f32⟩
  | 79 => ⟨S2000x1, .f32⟩
  | 80 => ⟨S2000, .f32⟩
  | 81 => ⟨S_, .f32⟩
  | 82 => ⟨S_, .f32⟩
  | 83 => ⟨S_, .f32⟩
  | 84 => ⟨S2000, .f32⟩
  | 85 => ⟨S2000, .f32⟩
  | 86 => ⟨S_, .f32⟩
  | 87 => ⟨S2000, .f32⟩
  | 88 => ⟨S2000, .f32⟩
  | 89 => ⟨S2000x1, .f32⟩
  | 90 => ⟨S2000, .f32⟩
  | 91 => ⟨S_, .f32⟩
  | 92 => ⟨S_, .f32⟩
  | 93 => ⟨S_, .f32⟩
  | 94 => ⟨S2000, .f32⟩
  | 95 => ⟨S2000, .f32⟩
  | 96 => ⟨S_, .f32⟩
  | 97 => ⟨S2000, .f32⟩
  | 98 => ⟨S2000, .f32⟩
  | 99 => ⟨S2000x1, .f32⟩
  | 100 => ⟨S2000, .f32⟩
  | 101 => ⟨S_, .f32⟩
  | 102 => ⟨S_, .f32⟩
  | 103 => ⟨S_, .f32⟩
  | 104 => ⟨S2000, .f32⟩
  | 105 => ⟨S2000, .f32⟩
  | 106 => ⟨S_, .f32⟩
  | 107 => ⟨S2000, .f32⟩
  | 108 => ⟨S2000, .f32⟩
  | 109 => ⟨S2000x1, .f32⟩
  | 110 => ⟨S2000, .f32⟩
  | 111 => ⟨S_, .f32⟩
  | 112 => ⟨S_, .f32⟩
  | 113 => ⟨S_, .f32⟩
  | 114 => ⟨S2000, .f32⟩
  | 115 => ⟨S2000, .f32⟩
  | 116 => ⟨S_, .f32⟩
  | 117 => ⟨S2000, .f32⟩
  | 118 => ⟨S2000, .f32⟩
  | 119 => ⟨S2000x1, .f32⟩
  | 120 => ⟨S2000x1, .f32⟩
  | 121 => ⟨S2000x1, .f32⟩
  | 122 => ⟨S2000x1, .f32⟩
  | 123 => ⟨S2000x4, .f32⟩
  | 124 => ⟨S2000x1, .f32⟩
  | 125 => ⟨S2000, .f32⟩
  | 126 => ⟨S2000x1, .f32⟩
  | 127 => ⟨S2000, .f32⟩
  | _ => ⟨S20000x4, .f32⟩

abbrev hbmTy0_1 (i : Nat) : BufTy := match i % 128 with
  | 0 => ⟨S2000, .f32⟩
  | 1 => ⟨S2000x1, .f32⟩
  | 2 => ⟨S2000, .f32⟩
  | 3 => ⟨S2000x1, .f32⟩
  | 4 => ⟨S2000, .f32⟩
  | 5 => ⟨S2000, .f32⟩
  | 6 => ⟨S_, .f32⟩
  | 7 => ⟨S2000, .f32⟩
  | 8 => ⟨S2000, .i1⟩
  | 9 => ⟨S_, .f32⟩
  | 10 => ⟨S2000, .f32⟩
  | 11 => ⟨S2000, .i1⟩
  | 12 => ⟨S2000, .i1⟩
  | 13 => ⟨S_, .f32⟩
  | 14 => ⟨S_, .f32⟩
  | 15 => ⟨S2000, .f32⟩
  | 16 => ⟨S2000, .f32⟩
  | 17 => ⟨S2000x1, .f32⟩
  | 18 => ⟨S2000, .f32⟩
  | 19 => ⟨S2000x1, .f32⟩
  | 20 => ⟨S2000, .f32⟩
  | 21 => ⟨S2000, .f32⟩
  | 22 => ⟨S2000x1, .f32⟩
  | 23 => ⟨S2000, .f32⟩
  | 24 => ⟨S2000x1, .f32⟩
  | 25 => ⟨S2000, .f32⟩
  | 26 => ⟨S2000, .f32⟩
  | 27 => ⟨S2000, .f32⟩
  | 28 => ⟨S2000x2, .f32⟩
  | 29 => ⟨S2000x1x2, .f32⟩
  | 30 => ⟨S2000x2, .f32⟩
  | 31 => ⟨S1x2000x2, .f32⟩
  | 32 => ⟨S2000x2000x2, .f32⟩
  | 33 => ⟨S2000x2000x2, .f32⟩
  | 34 => ⟨S2000x2000x2, .f32⟩
  | 35 => ⟨S2000x2, .f32⟩
  | 36 => ⟨S2000x1x2, .f32⟩
  | 37 => ⟨S2000x2, .f32⟩
  | 38 => ⟨S1x2000x2, .f32⟩
  | 39 => ⟨S2000x2000x2, .f32⟩
  | 40 => ⟨S2000x2000x2, .f32⟩
  | 41 => ⟨S2000x2000x2, .f32⟩
  | 42 => ⟨S2000x2000x2, .f32⟩
  | 43 => ⟨S_, .f32⟩
  | 44 => ⟨S_, .f32⟩
  | 45 => ⟨S2000x2000x2, .f32⟩
  | 46 => ⟨S2000x2000x2, .f32⟩
  | 47 => ⟨S2000x2000x1, .f32⟩
  | 48 => ⟨S2000x2000, .f32⟩
  | 49 => ⟨S2000x2000x1, .f32⟩
  | 50 => ⟨S2000x2000, .f32⟩
  | 51 => ⟨S2000x2000, .f32⟩
  | 52 => ⟨S2000x1, .f32⟩
  | 53 => ⟨S1x2000, .f32⟩
  | 54 => ⟨S2000x2000, .f32⟩
  | 55 => ⟨S2000x2000, .f32⟩
  | 56 => ⟨S2000x2000, .f32⟩
  | 57 => ⟨S2000x2000, .f32⟩
  | 58 => ⟨S_, .f32⟩
  | 59 => ⟨S2000x2000, .f32⟩
  | 60 => ⟨S2000x2000, .f32⟩
  | 61 => ⟨S2000x2000, .f32⟩
  | 62 => ⟨S_, .f32⟩
  | 63 => ⟨S2000x2000, .f32⟩
  | 64 => ⟨S2000x2000, .i1⟩
  | 65 => ⟨S2000, .i32⟩
  | 66 => ⟨S_, .i32⟩
  | 67 => ⟨S_, .i32⟩
  | 68 => ⟨S2000x2000, .i1⟩
  | 69 => ⟨S2000, .i32⟩
  | 70 => ⟨S_, .i32⟩
  | 71 => ⟨S_, .i32⟩
  | 72 => ⟨S2000, .i1⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S1x2000, .i1⟩
  | 92 => ⟨S2000, .i1⟩
  | 93 => ⟨S_, .i32⟩
  | 94 => ⟨S2000, .i32⟩
  | 95 => ⟨S2000, .i1⟩
  | 96 => ⟨S2000, .i1⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1, .i1⟩
  | 104 => ⟨S_, .i1⟩
  | 105 => ⟨S2000, .i1⟩
  | 106 => ⟨S2000, .i1⟩
  | 107 => ⟨S2000, .i1⟩
  | 108 => ⟨S_, .i32⟩
  | 109 => ⟨S_, .i32⟩
  | 110 => ⟨S_, .f32⟩
  | 111 => ⟨S_, .f32⟩
  | 112 => ⟨S2000, .f32⟩
  | 113 => ⟨S2000, .f32⟩
  | 114 => ⟨S1000, .f32⟩
  | 115 => ⟨S1000, .i32⟩
  | 116 => ⟨S_, .i32⟩
  | 117 => ⟨S1000, .i32⟩
  | 118 => ⟨S1000, .i1⟩
  | 119 => ⟨S_, .i32⟩
  | 120 => ⟨S1000, .i32⟩
  | 121 => ⟨S1000, .i32⟩
  | 122 => ⟨S1000, .i32⟩
  | 123 => ⟨S1000x1, .i32⟩
  | 124 => ⟨S1000x4, .f32⟩
  | 125 => ⟨S1000x1, .f32⟩
  | 126 => ⟨S1000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_values : Ref sig .tc := ⟨.hbm, 68, rfl⟩
abbrev main_indices : Ref sig .tc := ⟨.hbm, 69, rfl⟩
abbrev main_c : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_cst_9 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_cst_11 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_cst_13 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_cst_15 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_16 : Ref sig .tc := ⟨.hbm, 134, rfl⟩
abbrev main_v91 : Ref sig .tc := ⟨.hbm, 135, rfl⟩
abbrev main_v92 : Ref sig .tc := ⟨.hbm, 136, rfl⟩
abbrev main_cst_17 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_18 : Ref sig .tc := ⟨.hbm, 141, rfl⟩
abbrev main_call4_v0 : Ref sig .tc := ⟨.hbm, 142, rfl⟩
abbrev main_call4_v1 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_19 : Ref sig .tc := ⟨.hbm, 171, rfl⟩
abbrev main_call5_v0 : Ref sig .tc := ⟨.hbm, 172, rfl⟩
abbrev main_call5_v1 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_20 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_21 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_c_22 : Ref sig .tc := ⟨.hbm, 194, rfl⟩
abbrev main_c_23 : Ref sig .tc := ⟨.hbm, 195, rfl⟩
abbrev main_v141_0 : Ref sig .tc := ⟨.hbm, 196, rfl⟩
abbrev main_v141_1 : Ref sig .tc := ⟨.hbm, 197, rfl⟩
abbrev main_v141_2 : Ref sig .tc := ⟨.hbm, 198, rfl⟩
abbrev main_v141_3 : Ref sig .tc := ⟨.hbm, 199, rfl⟩
abbrev main_v141_4 : Ref sig .tc := ⟨.hbm, 200, rfl⟩
abbrev main_while0c_c_33 : Ref sig .tc := ⟨.hbm, 201, rfl⟩
abbrev main_while0c_v152 : Ref sig .tc := ⟨.hbm, 202, rfl⟩
abbrev main_while0b_c_33 : Ref sig .tc := ⟨.hbm, 203, rfl⟩
abbrev main_while0b_v152 : Ref sig .tc := ⟨.hbm, 204, rfl⟩
abbrev main_while0b_v153 : Ref sig .tc := ⟨.hbm, 205, rfl⟩
abbrev main_while0b_c_34 : Ref sig .tc := ⟨.hbm, 206, rfl⟩
abbrev main_while0b_v154 : Ref sig .tc := ⟨.hbm, 207, rfl⟩
abbrev main_while0b_c_35 : Ref sig .tc := ⟨.hbm, 208, rfl⟩
abbrev main_while0b_v155 : Ref sig .tc := ⟨.hbm, 209, rfl⟩
abbrev main_while0b_v156 : Ref sig .tc := ⟨.hbm, 210, rfl⟩
abbrev main_while0b_c_36 : Ref sig .tc := ⟨.hbm, 211, rfl⟩
abbrev main_while0b_c_37 : Ref sig .tc := ⟨.hbm, 212, rfl⟩
abbrev main_while0b_v157 : Ref sig .tc := ⟨.hbm, 213, rfl⟩
abbrev main_while0b_c_38 : Ref sig .tc := ⟨.hbm, 214, rfl⟩
abbrev main_while0b_c_39 : Ref sig .tc := ⟨.hbm, 215, rfl⟩
abbrev main_while0b_v158 : Ref sig .tc := ⟨.hbm, 216, rfl⟩
abbrev main_while0b_c_40 : Ref sig .tc := ⟨.hbm, 217, rfl⟩
abbrev main_while0b_v159 : Ref sig .tc := ⟨.hbm, 218, rfl⟩
abbrev main_while0b_v160 : Ref sig .tc := ⟨.hbm, 219, rfl⟩
abbrev main_while0b_v161 : Ref sig .tc := ⟨.hbm, 220, rfl⟩
abbrev main_while0b_v162 : Ref sig .tc := ⟨.hbm, 221, rfl⟩
abbrev main_while0b_v163 : Ref sig .tc := ⟨.hbm, 222, rfl⟩
abbrev main_while0b_v164 : Ref sig .tc := ⟨.hbm, 223, rfl⟩
abbrev main_while0b_v165 : Ref sig .tc := ⟨.hbm, 224, rfl⟩
abbrev main_while0b_c_41 : Ref sig .tc := ⟨.hbm, 225, rfl⟩
abbrev main_while0b_v166 : Ref sig .tc := ⟨.hbm, 226, rfl⟩
abbrev main_while0b_v167 : Ref sig .tc := ⟨.hbm, 227, rfl⟩
abbrev main_while0b_c_42 : Ref sig .tc := ⟨.hbm, 228, rfl⟩
abbrev main_while0b_v168 : Ref sig .tc := ⟨.hbm, 229, rfl⟩
abbrev main_while0b_v169 : Ref sig .tc := ⟨.hbm, 230, rfl⟩
abbrev main_while0b_v170 : Ref sig .tc := ⟨.hbm, 231, rfl⟩
abbrev main_while0b_v171 : Ref sig .tc := ⟨.hbm, 232, rfl⟩
abbrev main_while0b_v172 : Ref sig .tc := ⟨.hbm, 233, rfl⟩
abbrev main_while0b_v173 : Ref sig .tc := ⟨.hbm, 234, rfl⟩
abbrev main_while0b_v174 : Ref sig .tc := ⟨.hbm, 235, rfl⟩
abbrev main_while0b_c_43 : Ref sig .tc := ⟨.hbm, 236, rfl⟩
abbrev main_while0b_v175 : Ref sig .tc := ⟨.hbm, 237, rfl⟩
abbrev main_cst_24 : Ref sig .tc := ⟨.hbm, 238, rfl⟩
abbrev main_call7_v0 : Ref sig .tc := ⟨.hbm, 239, rfl⟩
abbrev main_call7_v1 : Ref sig .tc := ⟨.hbm, 240, rfl⟩
abbrev main_v142 : Ref sig .tc := ⟨.hbm, 241, rfl⟩
abbrev main_values_25 : Ref sig .tc := ⟨.hbm, 242, rfl⟩
abbrev main_indices_26 : Ref sig .tc := ⟨.hbm, 243, rfl⟩
abbrev main_c_27 : Ref sig .tc := ⟨.hbm, 244, rfl⟩
abbrev main_v143 : Ref sig .tc := ⟨.hbm, 245, rfl⟩
abbrev main_v144 : Ref sig .tc := ⟨.hbm, 246, rfl⟩
abbrev main_c_28 : Ref sig .tc := ⟨.hbm, 247, rfl⟩
abbrev main_v145 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩

abbrev nD : Nat := 1
abbrev τ : Topo := Topo.v7x

variable {F : FTy → Type} [FloatOps F]

abbrev main_while0_count : Scf.Loop 32 := ⟨0#32, 2000#32, 1#32⟩
-- ==== Proof.Greedy.lean ====
/- Greedy suppression over a mask of booleans: the sequential pass and the pass in blocks agree, and what a stable
   sort of a vector padded at its end with least elements puts first. -/
module

public import Idealize.ShloMosaic.PureOps
public import Idealize.ShloMosaic.Lib.SortFacts

@[expose] public section

namespace Cert.Proof

open Idealize.ShloMosaic

/-! ## The greedy pass -/

/-- One step: a kept `i` takes out every later `j` it overlaps. -/
def gstep (s : Nat → Nat → Bool) (i : Nat) (k : Nat → Bool) : Nat → Bool :=
  fun j => k j && !(k i && s i j && decide (i < j))

/-- The first `n` steps. -/
def gseq (s : Nat → Nat → Bool) (v : Nat → Bool) : Nat → Nat → Bool
  | 0 => v
  | n + 1 => gstep s n (gseq s v n)

theorem gseq_succ (s : Nat → Nat → Bool) (v : Nat → Bool) (n j : Nat) :
    gseq s v (n + 1) j = (gseq s v n j && !(gseq s v n n && s n j && decide (n < j))) := rfl

/-- Steps at and after `j` leave `j` alone. -/
theorem gseq_stable (s : Nat → Nat → Bool) (v : Nat → Bool) (j : Nat) : ∀ n, j ≤ n → gseq s v n j = gseq s v j j := by
  intro n hn
  induction n, hn using Nat.le_induction with
  | base => rfl
  | succ n hn ih =>
    rw [gseq_succ, ih, decide_eq_false (by omega)]
    simp

theorem gseq_stable' (s : Nat → Nat → Bool) (v : Nat → Bool) {j n n' : Nat} (h : j ≤ n) (h' : j ≤ n') :
    gseq s v n j = gseq s v n' j := by rw [gseq_stable s v j n h, gseq_stable s v j n' h']

/-- The mask after `n` steps at `j`: `j` held at the start and no earlier kept one of the first `n` overlaps it. -/
theorem gseq_iff (s : Nat → Nat → Bool) (v : Nat → Bool) (j : Nat) : ∀ n, gseq s v n j = true ↔
    v j = true ∧ ∀ i, i < n → i < j → ¬ (gseq s v i i = true ∧ s i j = true)
  | 0 => by simp [gseq]
  | n + 1 => by
    rw [gseq_succ, Bool.and_eq_true, gseq_iff s v j n]
    constructor
    · rintro ⟨⟨hv, h⟩, h'⟩
      refine ⟨hv, fun i hi hij => ?_⟩
      rcases Nat.lt_succ_iff_lt_or_eq.mp hi with hi | rfl
      · exact h i hi hij
      · rintro ⟨a, b⟩; simp [a, b, hij] at h'
    · rintro ⟨hv, h⟩
      refine ⟨⟨hv, fun i hi => h i (by omega)⟩, ?_⟩
      by_cases hnj : n < j
      · have := h n (by omega) hnj
        cases h1 : gseq s v n n <;> cases h2 : s n j <;> simp_all
      · simp [hnj]

/-- Two passes whose data agree below `m` agree below `m`. -/
theorem gseq_congr {s s' : Nat → Nat → Bool} {v v' : Nat → Bool} {m : Nat} (hs : ∀ i j, i < m → j < m → s i j = s' i j)
    (hv : ∀ j, j < m → v j = v' j) : ∀ n, n ≤ m → ∀ j, j < m → gseq s v n j = gseq s' v' n j
  | 0, _, j, hj => hv j hj
  | n + 1, hn, j, hj => by
    rw [gseq_succ, gseq_succ, gseq_congr hs hv n (by omega) j hj, gseq_congr hs hv n (by omega) n (by omega),
      hs n j (by omega) hj]

/-- Entering the block at `lo`: taking out of the starting mask what the kept ones below `lo` overlap is the pass of the
    first `lo` steps. -/
theorem gseq_enter (s : Nat → Nat → Bool) (v : Nat → Bool) {lo j : Nat} (hj : lo ≤ j) (K : Nat → Bool)
    (hK : ∀ i, i < lo → K i = gseq s v lo i) (b : Bool) (hb : b = true ↔ ∃ i, i < lo ∧ K i = true ∧ s i j = true) :
    (if b = true then false else v j) = gseq s v lo j := by
  apply Bool.eq_iff_iff.mpr
  rw [gseq_iff]
  split
  · rename_i h
    obtain ⟨i, hi, hk, hs⟩ := hb.mp h
    constructor
    · intro h; exact absurd h (by simp)
    · rintro ⟨-, h'⟩
      rw [hK i hi, gseq_stable s v i lo (by omega)] at hk
      exact absurd ⟨hk, hs⟩ (h' i hi (by omega))
  · rename_i h
    refine ⟨fun hv => ⟨hv, fun i hi _ hh => h (hb.mpr ⟨i, hi, ?_, hh.2⟩)⟩, fun hv => hv.1⟩
    rw [hK i hi, gseq_stable s v i lo (by omega)]; exact hh.1

/-! ## A stable sort of a padded vector -/

section Padded

theorem insertBefore_append {ι : Type} (B : ι → ι → Bool) (a : ι) (m : List ι) (hm : ∀ q ∈ m, B q a = false) :
    ∀ l : List ι, insertBefore B a (l ++ m) = insertBefore B a l ++ m
  | [] => by
    cases m with
    | nil => rfl
    | cons q m => simp [insertBefore, hm q (by simp)]
  | b :: l => by
    simp only [List.cons_append, insertBefore]
    split
    · rw [insertBefore_append B a m hm l]; rfl
    · rfl

theorem stableSort_append {ι : Type} (B : ι → ι → Bool) (m : List ι) (hm : ∀ q ∈ m, ∀ a, B q a = false) :
    ∀ l : List ι, stableSort B (l ++ m) = stableSort B l ++ stableSort B m
  | [] => rfl
  | a :: l => by
    show insertBefore B a (stableSort B (l ++ m)) = insertBefore B a (stableSort B l) ++ _
    rw [stableSort_append B m hm l]
    exact insertBefore_append B a _ (fun q hq => hm q ((perm_stableSort B m).mem_iff.mp hq) a) _

theorem insertBefore_map {ι κ : Type} (B : ι → ι → Bool) (b : κ → κ → Bool) (f : κ → ι) (h : ∀ x y, B (f x) (f y) = b x y)
    (a : κ) : ∀ l : List κ, insertBefore B (f a) (l.map f) = (insertBefore b a l).map f
  | [] => rfl
  | c :: l => by
    simp only [List.map_cons, insertBefore, h]
    split
    · rw [List.map_cons, insertBefore_map B b f h a l]
    · rfl

theorem stableSort_map {ι κ : Type} (B : ι → ι → Bool) (b : κ → κ → Bool) (f : κ → ι) (h : ∀ x y, B (f x) (f y) = b x y) :
    ∀ l : List κ, stableSort B (l.map f) = (stableSort b l).map f
  | [] => rfl
  | a :: l => by
    show insertBefore B (f a) (stableSort B (l.map f)) = _
    rw [stableSort_map B b f h l, insertBefore_map B b f h]; rfl

theorem finRange_split (n p : Nat) : List.finRange (n + p)
    = (List.finRange n).map (Fin.castAdd p) ++ (List.finRange p).map (Fin.natAdd n) := by
  apply List.ext_getElem
  · simp
  · intro i h1 h2
    apply Fin.ext
    rw [List.getElem_append]
    split
    · simp
    · rename_i h
      simp only [List.getElem_finRange, List.getElem_map, List.length_map, List.length_finRange, Fin.val_cast, Fin.val_natAdd] at h ⊢
      omega

/-- The first `n` places of a stable sort of `n + p` positions of which the last `p` come before none are the stable sort
    of the first `n` positions. -/
theorem sortedFrom_padded {n p : Nat} (B : Fin (n + p) → Fin (n + p) → Bool) (b : Fin n → Fin n → Bool)
    (h : ∀ x y, B (Fin.castAdd p x) (Fin.castAdd p y) = b x y) (hp : ∀ (q : Fin p) a, B (Fin.natAdd n q) a = false)
    (k : Fin n) : sortedFrom B (Fin.castAdd p k) = Fin.castAdd p (sortedFrom b k) := by
  have e : sortPositions (n + p) B = (sortPositions n b).map (Fin.castAdd p)
      ++ stableSort B ((List.finRange p).map (Fin.natAdd n)) := by
    unfold sortPositions
    rw [finRange_split, stableSort_append, stableSort_map B b _ h]
    intro q hq a
    obtain ⟨q', -, rfl⟩ := List.mem_map.mp hq
    exact hp q' a
  unfold sortedFrom
  rw [List.get_of_eq e]
  simp only [List.get_eq_getElem, Fin.val_cast, Fin.val_castAdd]
  rw [List.getElem_append_left (by rw [List.length_map, length_sortPositions]; exact k.isLt), List.getElem_map]

end Padded

/-- The position in the operand of the `k`-th greatest of a vector. -/
def topPos {n : Nat} {α : Type} (gt : α → α → BitVec 1) (x : (⟨1, ![n]⟩ : Shape).Idx → α) (k : Fin n) : Fin n :=
  sortedFrom (fun a b => gt (x (Shape.Idx.ofFin a)) (x (Shape.Idx.ofFin b)) == 1#1) k

/-- A stable sort of a vector with a second carried along, by the first: both read through the sorted positions. -/
theorem sort2_rank1 {n : Nat} {α β : Type} (gt : α → α → BitVec 1) (x : (⟨1, ![n]⟩ : Shape).Idx → α)
    (y : (⟨1, ![n]⟩ : Shape).Idx → β) :
    Host.sort2 ⟨1, ![n]⟩ 0 (fun l r => gt l.1 r.1) x y
      = (fun j => x (Shape.Idx.ofFin (topPos gt x (j 0))), fun j => y (Shape.Idx.ofFin (topPos gt x (j 0)))) := by
  unfold Host.sort2 topPos
  simp

/-- The values and positions of the greatest, place by place. -/
theorem topK_fst {n m : Nat} {α : Type} (hmn : m ≤ n) (gt : α → α → BitVec 1) (x : (⟨1, ![n]⟩ : Shape).Idx → α)
    (h : (⟨1, ![n]⟩ : Shape).Slices (fun _ => 0) ⟨1, ![m]⟩) (k : Fin m) :
    (Host.topK (s := ⟨1, ![n]⟩) ⟨1, ![m]⟩ 0 gt x h).1 (Shape.Idx.ofFin k)
      = x (Shape.Idx.ofFin (topPos gt x (Fin.castLE hmn k))) := by
  unfold Host.topK
  dsimp only
  rw [sort2_rank1]
  simp only [extractStridedSlice]
  congr 3
  exact Fin.ext (Nat.zero_add _)

theorem topK_snd {n m : Nat} {α : Type} (hmn : m ≤ n) (gt : α → α → BitVec 1) (x : (⟨1, ![n]⟩ : Shape).Idx → α)
    (h : (⟨1, ![n]⟩ : Shape).Slices (fun _ => 0) ⟨1, ![m]⟩) (k : Fin m) :
    (Host.topK (s := ⟨1, ![n]⟩) ⟨1, ![m]⟩ 0 gt x h).2 (Shape.Idx.ofFin k)
      = BitVec.ofNat 32 (topPos gt x (Fin.castLE hmn k)).val := by
  have e : (Fin.castLE hmn k) = ⟨0 + k.val, by omega⟩ := Fin.ext (Nat.zero_add _).symm
  unfold Host.topK
  dsimp only
  rw [sort2_rank1, e]
  rfl

/-- The greatest of a vector padded at its end with elements greater than none are those of the vector. -/
theorem topPos_padded {n p : Nat} {α : Type} (gt : α → α → BitVec 1) (x : (⟨1, ![n]⟩ : Shape).Idx → α)
    (y : (⟨1, ![n + p]⟩ : Shape).Idx → α) (h : ∀ k : Fin n, y (Shape.Idx.ofFin (Fin.castAdd p k)) = x (Shape.Idx.ofFin k))
    (hp : ∀ (q : Fin p) a, gt (y (Shape.Idx.ofFin (Fin.natAdd n q))) (y (Shape.Idx.ofFin a)) = 0#1) (k : Fin n) :
    topPos gt y (Fin.castAdd p k) = Fin.castAdd p (topPos gt x k) :=
  sortedFrom_padded _ _ (fun a b => by simp only [h]) (fun q a => by simp only [hp]; rfl) k

end Cert.Proof
-- ==== Proof.Spec.lean ====
/- The mathematics both programs compute, on extended reals: the decoded and clipped box of one anchor and delta, whether
   two boxes overlap beyond the threshold, and whether a box has positive sides. -/
module

public import Idealize.ShloMosaic.PureOps.Ideal

@[expose] public section

noncomputable section

namespace Cert.Proof

open Idealize.ShloMosaic

/-- The lower edge of a decoded side, clipped to the image: anchor edges `x1`, `x2`, shift `d`, log scale `dw`. -/
def clo (x1 x2 d dw : EReal) : EReal :=
  min (Ideal.ofBits .f32 0x44800000#32) (max 0
    (d * (x2 - x1) + (x1 + Ideal.ofBits .f32 0x3F000000#32 * (x2 - x1))
      - Ideal.ofBits .f32 0x3F000000#32 * (Ideal.exp (min dw (Ideal.ofBits .f32 0x40845349#32)) * (x2 - x1))))

/-- The upper edge. -/
def chi (x1 x2 d dw : EReal) : EReal :=
  min (Ideal.ofBits .f32 0x44800000#32) (max 0
    (d * (x2 - x1) + (x1 + Ideal.ofBits .f32 0x3F000000#32 * (x2 - x1))
      + Ideal.ofBits .f32 0x3F000000#32 * (Ideal.exp (min dw (Ideal.ofBits .f32 0x40845349#32)) * (x2 - x1))))

/-- The box of an anchor `a` and its deltas `d`. -/
def bx (a d : Fin 4 → EReal) : Fin 4 → EReal :=
  ![clo (a 0) (a 2) (d 0) (d 2), clo (a 1) (a 3) (d 1) (d 3), chi (a 0) (a 2) (d 0) (d 2), chi (a 1) (a 3) (d 1) (d 3)]

/-- The area of a box. -/
def area (p : Fin 4 → EReal) : EReal := (p 2 - p 0) * (p 3 - p 1)

/-- The intersection of two boxes. -/
def inter (p q : Fin 4 → EReal) : EReal :=
  max (min (p 2) (q 2) - max (p 0) (q 0)) 0 * max (min (p 3) (q 3) - max (p 1) (q 1)) 0

/-- Whether `p` and `q`, the second of area `A`, overlap beyond the threshold. -/
def ovA (p q : Fin 4 → EReal) (A : EReal) : Bool :=
  decide (Ideal.ofBits .f32 0x3F333333#32
    < Ideal.div (inter p q) (max (area p + A - inter p q) (Ideal.ofBits .f32 0x358637BD#32)))

/-- Whether two boxes overlap beyond the threshold. -/
def ov (p q : Fin 4 → EReal) : Bool := ovA p q (area q)

/-- Whether a box has positive sides. -/
def vd (p : Fin 4 → EReal) : Bool := decide (0 < p 2 - p 0) && decide (0 < p 3 - p 1)

/-- A mask's entry as a number. -/
def bl (b : Bool) : EReal := if b then 1 else 0

theorem bl_pos (b : Bool) : 0 < bl b ↔ b = true := by cases b <;> simp [bl]

theorem bl_nonneg (b : Bool) : 0 ≤ bl b := by cases b <;> simp [bl]

theorem sitofp_bl (b : Bool) :
    (FloatOps.sitofp (F := Ideal) FTy.f32 (BitVec.setWidth 32 (BitVec.ofBool b)) : EReal) = bl b := by
  show ((((BitVec.setWidth 32 (BitVec.ofBool b)).toInt : ℤ) : ℝ) : EReal) = _
  cases b
  · rw [show (BitVec.setWidth 32 (BitVec.ofBool false)).toInt = 0 from by decide]; simp [bl]
  · rw [show (BitVec.setWidth 32 (BitVec.ofBool true)).toInt = 1 from by decide]; simp [bl]

theorem select_bl (b b' : Bool) :
    Scalar.select (IntOp.andi (BitVec.ofBool b) (BitVec.ofBool b')) (1 : EReal) 0 = bl (b && b') := by
  cases b <;> cases b' <;> rfl

/-- The box of a zero anchor with zero deltas has no side. -/
theorem vd_zero : vd (bx (fun _ => 0) (fun _ => 0)) = false := by
  simp [vd, bx, clo, chi, EReal.sub_self_le_zero]

end Cert.Proof
-- ==== Proof.Final.lean ====
/- The whole function on extended reals: the 2000 anchors of highest logit in order, their boxes, the greedy suppression,
   and the 1000 kept boxes of highest score. -/
module

public import proofs.«01_k».proof.Proof.Greedy
public import proofs.«01_k».proof.Proof.Spec
public import Idealize.ShloMosaic.Lib.Pointwise

@[expose] public section

noncomputable section

namespace Cert.Proof

open Idealize.ShloMosaic Idealize.ShloMosaic.TcCoe

/-- The order of the sorts. -/
abbrev gtI : EReal → EReal → BitVec 1 := FloatOps.cmpfTotal (F := Ideal) (φ := .f32) .gt

/-- The score of what is not kept. -/
abbrev NEG : EReal := Ideal.ofBits .f32 0xD01502F9#32

/-- The logits. -/
abbrev TL : Type := (⟨1, ![20000]⟩ : Shape).Idx → EReal

/-- The anchors, or the deltas. -/
abbrev TA : Type := (⟨2, ![20000, 4]⟩ : Shape).Idx → EReal

/-- The anchor of rank `k`. -/
def pos (L : TL) (k : Fin 2000) : Fin 20000 := topPos gtI L (Fin.castLE (by norm_num) k)

theorem ofFin_eq {n : Nat} (k : Fin n) : Shape.Idx.ofFin k = (ix1 k : (⟨1, ![n]⟩ : Shape).Idx) := by
  funext a
  match a with
  | ⟨0, _⟩ => rfl

/-- A sort's positions, read at a vector's index. -/
theorem topK_at_snd {n m : Nat} {α : Type} (hmn : m ≤ n) (gt : α → α → BitVec 1) (x : (⟨1, ![n]⟩ : Shape).Idx → α)
    (h : (⟨1, ![n]⟩ : Shape).Slices (fun _ => 0) ⟨1, ![m]⟩) (k : Fin m) :
    (Host.topK (s := ⟨1, ![n]⟩) ⟨1, ![m]⟩ 0 gt x h).2 (ix1 k) = BitVec.ofNat 32 (topPos gt x (Fin.castLE hmn k)).val :=
  (congrArg _ (ofFin_eq k).symm).trans (topK_snd hmn gt x h k)

/-- A sort's values, read at a vector's index. -/
theorem topK_at_fst {n m : Nat} {α : Type} (hmn : m ≤ n) (gt : α → α → BitVec 1) (x : (⟨1, ![n]⟩ : Shape).Idx → α)
    (h : (⟨1, ![n]⟩ : Shape).Slices (fun _ => 0) ⟨1, ![m]⟩) (k : Fin m) :
    (Host.topK (s := ⟨1, ![n]⟩) ⟨1, ![m]⟩ 0 gt x h).1 (ix1 k) = x (ix1 (topPos gt x (Fin.castLE hmn k))) :=
  (congrArg _ (ofFin_eq k).symm).trans ((topK_fst hmn gt x h k).trans (congrArg x (ofFin_eq _)))

/-- The greatest of a vector of `n` padded to `N` with elements greater than none are those of the vector. -/
theorem topPos_pad {n p N : Nat} (hN : n + p = N) {α : Type} (gt : α → α → BitVec 1) (x : (⟨1, ![n]⟩ : Shape).Idx → α)
    (y : (⟨1, ![N]⟩ : Shape).Idx → α) (h : ∀ (k : Fin N) (hk : k.val < n), y (ix1 k) = x (ix1 ⟨k.val, hk⟩))
    (hp : ∀ k a : Fin N, ¬k.val < n → gt (y (ix1 k)) (y (ix1 a)) = 0#1) (k : Fin n) :
    (topPos gt y (Fin.castLE (hN ▸ Nat.le_add_right n p) k)).val = (topPos gt x k).val := by
  subst hN
  refine congrArg Fin.val (topPos_padded gt x y (fun j => ?_) (fun q a => ?_) k)
  · rw [ofFin_eq, ofFin_eq]
    exact h _ j.isLt
  · rw [ofFin_eq, ofFin_eq]
    exact hp _ _ (by simp)

/-- The box of the anchor of rank `k`. -/
def box (A D : TA) (L : TL) (k : Fin 2000) : Fin 4 → EReal :=
  bx (fun q => A (ix2 (pos L k) q)) (fun q => D (ix2 (pos L k) q))

/-- Rank `i` among 2000. -/
def rk (i : Nat) : Fin 2000 := ⟨i % 2000, Nat.mod_lt _ (by norm_num)⟩

theorem rk_val (r : Fin 2000) : rk r.val = r := Fin.ext (Nat.mod_eq_of_lt r.isLt)

theorem rk_lt {i : Nat} (h : i < 2000) : rk i = ⟨i, h⟩ := Fin.ext (Nat.mod_eq_of_lt h)

/-- The overlaps. -/
def sR (A D : TA) (L : TL) (i j : Nat) : Bool := ov (box A D L (rk i)) (box A D L (rk j))

/-- The boxes with positive sides. -/
def vR (A D : TA) (L : TL) (j : Nat) : Bool := vd (box A D L (rk j))

/-- The scores after suppression. -/
def score (A D : TA) (L : TL) : (⟨1, ![2000]⟩ : Shape).Idx → EReal := fun y =>
  if gseq (sR A D L) (vR A D L) 2000 (y 0).val = true then L (ix1 (pos L (y 0))) else NEG

/-- The rank of the result's row `r`. -/
def sel (A D : TA) (L : TL) (r : Fin 1000) : Fin 2000 := topPos gtI (score A D L) (Fin.castLE (by norm_num) r)

/-- The result: a box and its score in each row. -/
def res (A D : TA) (L : TL) : (⟨2, ![1000, 5]⟩ : Shape).Idx → EReal := fun y =>
  if h : (y 1).val < 4 then box A D L (sel A D L (y 0)) ⟨(y 1).val, h⟩
  else score A D L (ix1 (sel A D L (y 0)))

end Cert.Proof
-- ==== Proof.KMat.lean ====
/- The kernel's decoded boxes and the rows of its overlap matrix, entry by entry. -/
module

public import proofs.«01_k».proof.Proof.Spec
public import proofs.«01_k».proof.Proof.Gen.KernelIdeal.Skeleton
public import Idealize.ShloMosaic.Lib.Pointwise
public import Idealize.ShloMosaic.Lib.ValueIdx

@[expose] public section

set_option maxRecDepth 16384

noncomputable section

namespace Cert.Proof.Ker

open Cert.KernelIdeal Cert.KernelIdeal.Gen
open Idealize.ShloMosaic Idealize.ShloMosaic.TcCoe

/-- Row `r` of a table of four columns. -/
abbrev rowOf (x : Vec Ideal S2048x4 .f32) (r : Fin 2048) : Fin 4 → EReal := fun q => x (ix2 r q)

/-- Column `r` of a table's first four rows. -/
abbrev colOf (x : Vec Ideal S8x2048 .f32) (r : Fin 2048) : Fin 4 → EReal := fun q => x (ix2 ⟨q.val, by omega⟩ r)

/-- Entry `r` of four columns. -/
abbrev quad (a b c d : FVec Ideal S2048x1 .f32) (r : Fin 2048) : Fin 4 → EReal :=
  ![a (ix2 r 0), b (ix2 r 0), c (ix2 r 0), d (ix2 r 0)]

/-- Entry `r` of four rows. -/
abbrev quadT (a b c d : FVec Ideal S1x2048 .f32) (r : Fin 2048) : Fin 4 → EReal :=
  ![a (ix2 0 r), b (ix2 0 r), c (ix2 0 r), d (ix2 0 r)]

theorem col0 (x0 x1 : Vec Ideal S2048x4 .f32) (r : Fin 2048) :
    k0_pay14 x0 x1 (ix2 r 0) = bx (rowOf x0 r) (rowOf x1 r) 0 := by
  pointwise [k0_pay14, k0_pay12, k0_pay10, k0_pay8, k0_pay6, k0_pay5, k0_pay4]
  rfl

theorem col1 (x0 x1 : Vec Ideal S2048x4 .f32) (r : Fin 2048) :
    k0_pay15 x0 x1 (ix2 r 0) = bx (rowOf x0 r) (rowOf x1 r) 1 := by
  pointwise [k0_pay15, k0_pay13, k0_pay11, k0_pay9, k0_pay7, k0_pay5, k0_pay4]
  rfl

theorem col2 (x0 x1 : Vec Ideal S2048x4 .f32) (r : Fin 2048) :
    k0_pay16 (k0_pay10 x0 x1) (k0_pay12 x0 x1) (ix2 r 0) = bx (rowOf x0 r) (rowOf x1 r) 2 := by
  pointwise [k0_pay16, k0_pay12, k0_pay10, k0_pay8, k0_pay6, k0_pay5, k0_pay4]
  rfl

theorem col3 (x0 x1 : Vec Ideal S2048x4 .f32) (r : Fin 2048) :
    k0_pay17 (k0_pay11 x0 x1) (k0_pay13 x0 x1) (ix2 r 0) = bx (rowOf x0 r) (rowOf x1 r) 3 := by
  pointwise [k0_pay17, k0_pay13, k0_pay11, k0_pay9, k0_pay7, k0_pay5, k0_pay4]
  rfl

theorem row0 (x2 x3 : Vec Ideal S8x2048 .f32) (r : Fin 2048) :
    k0_pay32 (k0_pay20 x2) (k0_pay22 x3) (k0_pay24 x3) (k0_pay26 x2) (ix2 0 r) = bx (colOf x2 r) (colOf x3 r) 0 := by
  pointwise [k0_pay32, k0_pay30, k0_pay28, k0_pay26, k0_pay24, k0_pay22, k0_pay20, k0_pay19, k0_pay18]
  rfl

theorem row1 (x2 x3 : Vec Ideal S8x2048 .f32) (r : Fin 2048) :
    k0_pay33 (k0_pay21 x2) (k0_pay23 x3) (k0_pay25 x3) (k0_pay27 x2) (ix2 0 r) = bx (colOf x2 r) (colOf x3 r) 1 := by
  pointwise [k0_pay33, k0_pay31, k0_pay29, k0_pay27, k0_pay25, k0_pay23, k0_pay21, k0_pay19, k0_pay18]
  rfl

theorem row2 (x2 x3 : Vec Ideal S8x2048 .f32) (r : Fin 2048) :
    k0_pay34 (k0_pay20 x2) (k0_pay22 x3) (k0_pay24 x3) (k0_pay26 x2) (ix2 0 r) = bx (colOf x2 r) (colOf x3 r) 2 := by
  pointwise [k0_pay34, k0_pay30, k0_pay28, k0_pay26, k0_pay24, k0_pay22, k0_pay20, k0_pay19, k0_pay18]
  rfl

theorem row3 (x2 x3 : Vec Ideal S8x2048 .f32) (r : Fin 2048) :
    k0_pay35 (k0_pay21 x2) (k0_pay23 x3) (k0_pay25 x3) (k0_pay27 x2) (ix2 0 r) = bx (colOf x2 r) (colOf x3 r) 3 := by
  pointwise [k0_pay35, k0_pay31, k0_pay29, k0_pay27, k0_pay25, k0_pay23, k0_pay21, k0_pay19, k0_pay18]
  rfl

/-- The area of each box. -/
theorem row_area (v68 v69 v72 v73 v76 v79 v80 v81 : FVec Ideal S1x2048 .f32) (r : Fin 2048) :
    k0_pay36 v68 v69 v72 v73 v76 v79 v80 v81 (ix2 0 r)
      = area (quadT (k0_pay32 v68 v72 v76 v80) (k0_pay33 v69 v73 v79 v81) (k0_pay34 v68 v72 v76 v80)
          (k0_pay35 v69 v73 v79 v81) r) := by
  pointwise [k0_pay36]
  rfl

/-- The starting mask. -/
theorem row_valid (v68 v69 v72 v73 v76 v79 v80 v81 : FVec Ideal S1x2048 .f32) (r : Fin 2048) :
    k0_pay81 (F := Ideal) (k0_pay38 (k0_pay33 v69 v73 v79 v81) (k0_pay35 v69 v73 v79 v81) (k0_pay37 v68 v72 v76 v80)) (ix2 0 r)
      = bl (vd (quadT (k0_pay32 v68 v72 v76 v80) (k0_pay33 v69 v73 v79 v81) (k0_pay34 v68 v72 v76 v80)
          (k0_pay35 v69 v73 v79 v81) r)) := by
  pointwise [k0_pay81, k0_pay38, k0_pay37]
  exact select_bl _ _

section Blocks

variable (a b c d : FVec Ideal S2048x1 .f32) (a' b' c' d' A : FVec Ideal S1x2048 .f32) (r : Fin 256) (l : Fin 2048)

theorem blk0 : k0_pay39 a b c d a' b' c' d' A (ix2 r l)
    = bl (ovA (quad a b c d ⟨0 + r.val, by omega⟩) (quadT a' b' c' d' l) (A (ix2 0 l))) := by
  simp only [Nat.zero_add]
  pointwise [k0_pay39]
  exact sitofp_bl _

theorem blk1 : k0_pay45 a' b' c' d' A (k0_pay40 a) (k0_pay41 b) (k0_pay42 c) (k0_pay43 d) (k0_pay44 a c) (ix2 r l)
    = bl (ovA (quad a b c d ⟨256 + r.val, by omega⟩) (quadT a' b' c' d' l) (A (ix2 0 l))) := by
  pointwise [k0_pay45, k0_pay44, k0_pay43, k0_pay42, k0_pay41, k0_pay40]
  exact sitofp_bl _

theorem blk2 : k0_pay54 b' A (k0_pay50 a b c d) (k0_pay51 a c a' c') (k0_pay52 d d') (k0_pay53 b) (ix2 r l)
    = bl (ovA (quad a b c d ⟨512 + r.val, by omega⟩) (quadT a' b' c' d' l) (A (ix2 0 l))) := by
  pointwise [k0_pay54, k0_pay53, k0_pay52, k0_pay51, k0_pay50, k0_pay49, k0_pay48, k0_pay47, k0_pay46]
  exact sitofp_bl _

theorem blk3 : k0_pay61 (k0_pay59 a b c d a' b' c' d') (k0_pay60 a b c d A) (ix2 r l)
    = bl (ovA (quad a b c d ⟨768 + r.val, by omega⟩) (quadT a' b' c' d' l) (A (ix2 0 l))) := by
  pointwise [k0_pay61, k0_pay60, k0_pay59, k0_pay58, k0_pay57, k0_pay56, k0_pay55]
  exact sitofp_bl _

theorem blk4 : k0_pay63 (k0_pay62 a b c d a' b' c' d' A) (ix2 r l)
    = bl (ovA (quad a b c d ⟨1024 + r.val, by omega⟩) (quadT a' b' c' d' l) (A (ix2 0 l))) := by
  pointwise [k0_pay63, k0_pay62]
  exact sitofp_bl _

theorem blk5 : k0_pay64 a b c d a' b' c' d' A (ix2 r l)
    = bl (ovA (quad a b c d ⟨1280 + r.val, by omega⟩) (quadT a' b' c' d' l) (A (ix2 0 l))) := by
  pointwise [k0_pay64]
  exact sitofp_bl _

theorem blk6 : k0_pay71 a' b' d' A (k0_pay65 a) (k0_pay66 b) (k0_pay68 d) (k0_pay69 a b c d) (k0_pay70 c c') (ix2 r l)
    = bl (ovA (quad a b c d ⟨1536 + r.val, by omega⟩) (quadT a' b' c' d' l) (A (ix2 0 l))) := by
  pointwise [k0_pay71, k0_pay70, k0_pay69, k0_pay68, k0_pay67, k0_pay66, k0_pay65]
  exact sitofp_bl _

theorem blk7 : k0_pay80 A (k0_pay76 a b c d) (k0_pay77 a c a' c') (k0_pay78 b d b' d') (k0_pay79 (F := Ideal)) (ix2 r l)
    = bl (ovA (quad a b c d ⟨1792 + r.val, by omega⟩) (quadT a' b' c' d' l) (A (ix2 0 l))) := by
  pointwise [k0_pay80, k0_pay79, k0_pay78, k0_pay77, k0_pay76, k0_pay75, k0_pay74, k0_pay73, k0_pay72]
  exact sitofp_bl _

end Blocks

end Cert.Proof.Ker
-- ==== Proof.KHost.lean ====
/- The arrays the kernel's region reads, as the host lines before it leave them. -/
module

public import proofs.«01_k».proof.Proof.Final
public import proofs.«01_k».proof.Proof.KMat
public import proofs.«01_k».proof.Proof.Gen.KernelIdeal.Frame
public import Idealize.ShloMosaic.Lib.StableHlo.RunClose
public import Idealize.ShloMosaic.Lib.Pointwise
public import Idealize.ShloMosaic.Lib.WordCmp
public import Idealize.ShloMosaic.Lib.Routing.Ops

@[expose] public section

set_option maxRecDepth 16384

noncomputable section

namespace Cert.Proof.Ker

open Cert.KernelIdeal Cert.KernelIdeal.Gen
open Idealize.ShloMosaic Idealize.ShloMosaic.TcCoe

variable (m : (ℓ : Loc nD τ sig) → Buf (Elt Ideal) ℓ) (c : Dev nD)

/-- The sorted logits' positions. -/
abbrev ixs (L : Vec Ideal S20000 .f32) : IVec S2000 32 :=
  (Host.topK S2000 0 (FloatOps.cmpfTotal (F := Ideal) (φ := .f32) .gt) L sliceFits_S20000_S2000).2

/-- The positions made nonnegative, as the start indices of a gather. -/
abbrev wrapped (L : Vec Ideal S20000 .f32) : IVec S2000x1 32 :=
  broadcastInDim S2000x1 ![0] bcast_S2000_S2000x1_0
    (select (cmpi .slt (ixs L) (broadcastInDim S2000 ![] bcast_S_S2000 (constantI S_ 32 0#32)))
      (addi (ixs L) (broadcastInDim S2000 ![] bcast_S_S2000 (constantI S_ 32 20000#32))) (ixs L))

/-- The gathered rows of a table. -/
abbrev rows (A : Vec Ideal S20000x4 .f32) (L : Vec Ideal S20000 .f32) : Vec Ideal S2000x4 .f32 :=
  Host.gather gather_S20000x4_S2000x1_S2000x4_1_0_n_n_0_1_14 A (wrapped L)

/-- The gathered rows, padded with zeros to 2048. -/
abbrev aK (A : Vec Ideal S20000x4 .f32) (L : Vec Ideal S20000 .f32) : Vec Ideal S2048x4 .f32 :=
  pad S2048x4 ![0, 0] ![48, 0] ![0, 0] (rows A L) (sitofp (F := Ideal) .f32 (constantI S_ 32 0#32)) pads_S2000x4_S2048x4_0480_000 h_S_

/-- A table transposed, padded to eight rows. -/
abbrev tK (x : Vec Ideal S2048x4 .f32) : Vec Ideal S8x2048 .f32 :=
  pad S8x2048 ![0, 0] ![4, 0] ![0, 0] (transpose S4x2048 [1, 0] x transposes_S2048x4_S4x2048_1_0)
    (sitofp (F := Ideal) .f32 (constantI S_ 32 0#32)) pads_S4x2048_S8x2048_040_000 h_S_

/-- The sorted logits, padded to 2048. -/
abbrev lK (L : Vec Ideal S20000 .f32) : Vec Ideal S1x2048 .f32 :=
  shapeCast S1x2048 (pad S2048 ![0] ![48] ![0]
    (Host.topK S2000 0 (FloatOps.cmpfTotal (F := Ideal) (φ := .f32) .gt) L sliceFits_S20000_S2000).1
    (constant (F := Ideal) S_ .f32 0xD01502F9#32) pads_S2000_S2048_0480 h_S_) shapeCasts_S2048_S1x2048

theorem v14_val : V m c main_v14 = aK (m (c, Proc.devRef .tc main_arg0)) (m (c, Proc.devRef .tc main_arg1)) := by
  show StableHlo.after _ _ (Proc.devRef .tc main_v14) = _
  simp only [hostOps0, hostOps0_1, hostOps0_2, hostOps0_3, hostOps0_4, hostOps0_5, hostOps0_6, hostOps0_7, hostOps0_8,
    hostOps0_9, List.flatten_cons, List.flatten_nil, List.append_nil, List.cons_append, List.nil_append]
  after_results_simp
  simp only [StableHlo.TRef.ofBuf_toBuf, StableHlo.TRef.toBuf, StableHlo.TRef.ofBuf, cast_cast, cast_eq]

theorem v15_val : V m c main_v15 = aK (m (c, Proc.devRef .tc main_arg2)) (m (c, Proc.devRef .tc main_arg1)) := by
  show StableHlo.after _ _ (Proc.devRef .tc main_v15) = _
  simp only [hostOps0, hostOps0_1, hostOps0_2, hostOps0_3, hostOps0_4, hostOps0_5, hostOps0_6, hostOps0_7, hostOps0_8,
    hostOps0_9, List.flatten_cons, List.flatten_nil, List.append_nil, List.cons_append, List.nil_append]
  after_results_simp
  simp only [StableHlo.TRef.ofBuf_toBuf, StableHlo.TRef.toBuf, StableHlo.TRef.ofBuf, cast_cast, cast_eq]

theorem v19_val : V m c main_v19 = tK (aK (m (c, Proc.devRef .tc main_arg0)) (m (c, Proc.devRef .tc main_arg1))) := by
  show StableHlo.after _ _ (Proc.devRef .tc main_v19) = _
  simp only [hostOps0, hostOps0_1, hostOps0_2, hostOps0_3, hostOps0_4, hostOps0_5, hostOps0_6, hostOps0_7, hostOps0_8,
    hostOps0_9, List.flatten_cons, List.flatten_nil, List.append_nil, List.cons_append, List.nil_append]
  after_results_simp
  simp only [StableHlo.TRef.ofBuf_toBuf, StableHlo.TRef.toBuf, StableHlo.TRef.ofBuf, cast_cast, cast_eq]

theorem v21_val : V m c main_v21 = tK (aK (m (c, Proc.devRef .tc main_arg2)) (m (c, Proc.devRef .tc main_arg1))) := by
  show StableHlo.after _ _ (Proc.devRef .tc main_v21) = _
  simp only [hostOps0, hostOps0_1, hostOps0_2, hostOps0_3, hostOps0_4, hostOps0_5, hostOps0_6, hostOps0_7, hostOps0_8,
    hostOps0_9, List.flatten_cons, List.flatten_nil, List.append_nil, List.cons_append, List.nil_append]
  after_results_simp
  simp only [StableHlo.TRef.ofBuf_toBuf, StableHlo.TRef.toBuf, StableHlo.TRef.ofBuf, cast_cast, cast_eq]

theorem v17_val : V m c main_v17 = lK (m (c, Proc.devRef .tc main_arg1)) := by
  show StableHlo.after _ _ (Proc.devRef .tc main_v17) = _
  simp only [hostOps0, hostOps0_1, hostOps0_2, hostOps0_3, hostOps0_4, hostOps0_5, hostOps0_6, hostOps0_7, hostOps0_8,
    hostOps0_9, List.flatten_cons, List.flatten_nil, List.append_nil, List.cons_append, List.nil_append]
  after_results_simp
  simp only [StableHlo.TRef.ofBuf_toBuf, StableHlo.TRef.toBuf, StableHlo.TRef.ofBuf, cast_cast, cast_eq]
  rfl

theorem ixs_at (L : Vec Ideal S20000 .f32) (k : Fin 2000) : ixs L (ix1 k) = BitVec.ofNat 32 (pos L k).val := by
  unfold ixs pos
  rw [topK_at_snd]

theorem wrapped_at (L : Vec Ideal S20000 .f32) (k : Fin 2000) :
    wrapped L (ix2 k 0) = BitVec.ofNat 32 (pos L k).val := by
  pointwise
  rw [ixs_at, WordCmp.cmpi_slt_ofNat (by omega) (by norm_num)]
  rfl

theorem rows_at (A : Vec Ideal S20000x4 .f32) (L : Vec Ideal S20000 .f32) (k : Fin 2000) (q : Fin 4) :
    rows A L (ix2 k q) = A (ix2 (pos L k) q) :=
  Routing.gather_row gather_S20000x4_S2000x1_S2000x4_1_0_n_n_0_1_14 rfl rfl rfl rfl rfl A (wrapped L) k q (pos L k)
    (wrapped_at L k) (by norm_num)

theorem aK_at (A : Vec Ideal S20000x4 .f32) (L : Vec Ideal S20000 .f32) (r : Fin 2048) (q : Fin 4) :
    aK A L (ix2 r q) = if h : r.val < 2000 then A (ix2 (pos L ⟨r.val, h⟩) q) else 0 := by
  pointwise
  split
  · exact rows_at ..
  · exact sitofp_bl false

theorem tK_at (x : Vec Ideal S2048x4 .f32) (r : Fin 2048) (q : Fin 4) :
    tK x (ix2 ⟨q.val, by omega⟩ r) = x (ix2 r q) := by
  pointwise

theorem lK_at (L : Vec Ideal S20000 .f32) (r : Fin 2048) :
    lK L (ix2 0 r) = if h : r.val < 2000 then L (ix1 (pos L ⟨r.val, h⟩)) else NEG := by
  pointwise
  split
  · unfold pos
    rw [topK_at_fst]
  · rfl

end Cert.Proof.Ker
-- ==== Proof.Keep.lean ====
/- The kernel's masks as steps of the greedy sequence: inside one block of 256 boxes a loop runs the steps one at a time,
   between blocks one product with the overlap matrix enters a whole block at once. -/
module

public import proofs.«01_k».proof.Proof.KMat
public import proofs.«01_k».proof.Proof.Greedy
public import Idealize.ShloMosaic.Lib.WordCmp

@[expose] public section

set_option maxRecDepth 16384

noncomputable section

namespace Cert.Proof.Ker

open Cert.KernelIdeal Cert.KernelIdeal.Gen
open Idealize.ShloMosaic Idealize.ShloMosaic.TcCoe

/-- The row `K` holds the mask `f`. -/
def RepK (K : FVec Ideal S1x2048 .f32) (f : Nat → Bool) : Prop := ∀ r : Fin 2048, K (ix2 0 r) = bl (f r.val)

/-- The row `D` holds the mask `f` from position `lo` on. -/
def RepB (lo : Nat) (D : FVec Ideal S1x256 .f32) (f : Nat → Bool) : Prop := ∀ l : Fin 256, D (ix2 0 l) = bl (f (lo + l.val))

/-- The diagonal block at `lo`. -/
def RepD (lo : Nat) (B : Vec Ideal S256x256 .f32) (s : Nat → Nat → Bool) : Prop :=
  ∀ (x l : Fin 256), B (ix2 x l) = bl (s (lo + x.val) (lo + l.val))

/-- The column block at `lo`. -/
def RepC (lo : Nat) (C : Vec Ideal S2048x256 .f32) (s : Nat → Nat → Bool) : Prop :=
  ∀ (x : Fin 2048) (l : Fin 256), C (ix2 x l) = bl (s x.val (lo + l.val))

/-- The mask when the first `lo` boxes are settled and the others untouched. -/
def mk (s : Nat → Nat → Bool) (v : Nat → Bool) (lo j : Nat) : Bool := if j < lo then gseq s v lo j else v j

theorem sum_bl_pos {n : Nat} (t : Fin n → Bool) : 0 < ∑ x, bl (t x) ↔ ∃ x, t x = true := by
  have h0 : ∀ x ∈ Finset.univ, 0 ≤ bl (t x) := fun x _ => bl_nonneg _
  rw [lt_iff_le_and_ne, and_iff_right (Finset.sum_nonneg h0), ne_comm, ne_eq, Finset.sum_eq_zero_iff_of_nonneg h0]
  simp only [Finset.mem_univ, true_imp_iff, not_forall]
  exact exists_congr fun x => by cases t x <;> simp [bl]

theorem bl_mul (a b : Bool) : bl a * bl b = bl (a && b) := by cases a <;> cases b <;> simp [bl]

theorem select_zero (a b : Bool) : Scalar.select (BitVec.ofBool a) (bl b) 0 = bl (a && b) := by
  cases a <;> rfl

theorem iv_nat (k : Nat) : Scf.iv 0#32 1#32 k = BitVec.ofNat 32 k := by simp [Scf.iv]

/-- A one-hot row picks one entry. -/
theorem pick {n : Nat} (hn : n < 2 ^ 31) (k : Fin n) (g : Fin n → EReal) :
    ∑ x : Fin n, Scalar.select (IntOp.cmpi .eq (BitVec.ofNat 32 x.val) (Scf.iv 0#32 1#32 k.val)) (g x) 0 = g k := by
  rw [iv_nat, Finset.sum_eq_single k]
  · rw [WordCmp.cmpi_eq_ofNat (by omega) (by omega)]; simp [Scalar.select]
  · intro x _ hx
    have : x.val ≠ k.val := fun h => hx (Fin.ext h)
    rw [WordCmp.cmpi_eq_ofNat (by omega) (by omega)]; simp [Scalar.select, this]
  · intro h; exact absurd (Finset.mem_univ k) h

/-- One step inside a block. -/
theorem step_rep {lo : Nat} {B : Vec Ideal S256x256 .f32} {s : Nat → Nat → Bool} {v : Nat → Bool} (hB : RepD lo B s)
    (k : Fin k0_t1_loop.trips) {D : FVec Ideal S1x256 .f32} (hD : RepB lo D (gseq s v (lo + k.val))) :
    RepB lo (k0_pay83 B k D) (gseq s v (lo + (k.val + 1))) := by
  intro l
  have hk : k.val < 256 := k.isLt
  rw [← Nat.add_assoc, gseq_succ]
  pointwise [k0_pay83]
  rw [pick (n := 256) (by norm_num) ⟨k.val, hk⟩ (fun x => B (ix2 x l)), pick (n := 256) (by norm_num) ⟨k.val, hk⟩ (fun x => D (ix2 0 x)),
    hB, hD, hD l, bl_mul, iv_nat, WordCmp.cmpi_sgt_ofNat (by omega) (by omega), select_zero]
  simp only [bl_pos]
  rw [show (decide (lo + k.val < lo + l.val)) = decide (k.val < l.val) from by simp]
  generalize decide (k.val < l.val) = a
  generalize gseq s v (lo + k.val) (lo + l.val) = b
  generalize gseq s v (lo + k.val) (lo + k.val) = c
  generalize s (lo + k.val) (lo + l.val) = d
  cases a <;> cases b <;> cases c <;> cases d <;> rfl

theorem fold_ind {α : Type} (P : Nat → α → Prop) : ∀ (n : Nat) (g : Fin n → α → α) (x : α), P 0 x →
    (∀ (k : Fin n) (a : α), P k.val a → P (k.val + 1) (g k a)) → P n ((List.finRange n).foldl (fun acc k => g k acc) x)
  | 0, _, _, h0, _ => h0
  | n + 1, g, x, h0, hs => by
    rw [List.finRange_succ_last, List.foldl_append, List.foldl_map]
    exact hs (Fin.last n) _ (fold_ind P n (fun k => g k.castSucc) x h0 fun k a h => hs k.castSucc a h)

/-- The loop of a block. -/
theorem fold_rep {lo : Nat} {B : Vec Ideal S256x256 .f32} {s : Nat → Nat → Bool} {v : Nat → Bool} (hB : RepD lo B s)
    {D : FVec Ideal S1x256 .f32} (hD : RepB lo D (gseq s v lo)) :
    RepB lo (Scf.fold (n := k0_t1_loop.trips) (fun a a_1 => k0_pay83 B a a_1) D) (gseq s v (lo + 256)) := by
  rw [Scf.fold_eq]
  exact fold_ind (fun k a => RepB lo a (gseq s v (lo + k))) 256 (fun k a => k0_pay83 B k a) D hD
    fun k a h => step_rep hB k h

/-- Entering a block: one product of the settled mask with the matrix. -/
theorem cross_rep {lo : Nat} (hlo : lo + 256 ≤ 2048) {K : FVec Ideal S1x2048 .f32} {C : Vec Ideal S2048x256 .f32}
    {s : Nat → Nat → Bool} {v : Nat → Bool} (hK : RepK K (mk s v lo)) (hC : RepC lo C s) (l : Fin 256) :
    (if 0 < ∑ x : Fin 2048, Scalar.select (IntOp.cmpi .slt (BitVec.ofNat 32 x.val) (BitVec.ofNat 32 lo))
        (K (ix2 0 x) * C (ix2 x l)) 0 then (0 : EReal) else K (ix2 0 ⟨lo + l.val, by omega⟩))
      = bl (gseq s v lo (lo + l.val)) := by
  have e : ∀ x : Fin 2048, Scalar.select (IntOp.cmpi .slt (BitVec.ofNat 32 x.val) (BitVec.ofNat 32 lo))
      (K (ix2 0 x) * C (ix2 x l)) 0 = bl (decide (x.val < lo) && (mk s v lo x.val && s x.val (lo + l.val))) := fun x => by
    rw [hK, hC, bl_mul, WordCmp.cmpi_slt_ofNat (by omega) (by omega), select_zero]
  simp only [e, sum_bl_pos]
  rw [← gseq_enter s v (Nat.le_add_right lo l.val) (mk s v lo) (fun i hi => if_pos hi)
    (decide (∃ x : Fin 2048, (decide (x.val < lo) && (mk s v lo x.val && s x.val (lo + l.val))) = true)) ?_, hK]
  · have : mk s v lo (lo + l.val) = v (lo + l.val) := if_neg (by omega)
    simp only [this]
    by_cases h : ∃ x : Fin 2048, (decide (x.val < lo) && (mk s v lo x.val && s x.val (lo + l.val))) = true
    · rw [if_pos h, if_pos (decide_eq_true h)]; rfl
    · rw [if_neg h, if_neg (by simpa using h)]
  · rw [decide_eq_true_iff]
    constructor
    · rintro ⟨x, h⟩
      simp only [Bool.and_eq_true, decide_eq_true_eq] at h
      exact ⟨x.val, h.1, h.2.1, h.2.2⟩
    · rintro ⟨i, hi, hk, hs⟩
      refine ⟨⟨i, by omega⟩, ?_⟩
      simp only [Bool.and_eq_true, decide_eq_true_eq]
      exact ⟨hi, hk, hs⟩

/-- Putting the settled block back. -/
theorem cat_rep {lo : Nat} {K : FVec Ideal S1x2048 .f32} {D : FVec Ideal S1x256 .f32}
    {s : Nat → Nat → Bool} {v : Nat → Bool} (hK : RepK K (mk s v lo)) (hD : RepB lo D (gseq s v (lo + 256)))
    (r : Fin 2048) (p : EReal)
    (hp : ∀ (h : lo ≤ r.val) (h' : r.val < lo + 256), p = D (ix2 0 ⟨r.val - lo, by omega⟩))
    (hq : r.val < lo ∨ lo + 256 ≤ r.val → p = K (ix2 0 r)) : p = bl (mk s v (lo + 256) r.val) := by
  rcases Nat.lt_or_ge r.val lo with h | h
  · rw [hq (.inl h), hK]
    simp only [mk, if_pos h, if_pos (show r.val < lo + 256 by omega)]
    rw [gseq_stable' s v (Nat.le_of_lt h) (show r.val ≤ lo + 256 by omega)]
  · rcases Nat.lt_or_ge r.val (lo + 256) with h' | h'
    · rw [hp h h', hD]
      simp only [mk, if_pos h']
      rw [show lo + (r.val - lo) = r.val by omega]
    · rw [hq (.inr h'), hK]
      simp only [mk, if_neg (show ¬ r.val < lo by omega), if_neg (show ¬ r.val < lo + 256 by omega)]

end Cert.Proof.Ker
-- ==== Proof.Chain.lean ====
/- The kernel's eight blocks, each read as one stage of the greedy sequence. -/
module

public import proofs.«01_k».proof.Proof.Keep

@[expose] public section

set_option maxRecDepth 16384

noncomputable section

namespace Cert.Proof.Ker

open Cert.KernelIdeal Cert.KernelIdeal.Gen
open Idealize.ShloMosaic Idealize.ShloMosaic.TcCoe

variable {s : Nat → Nat → Bool} {v : Nat → Bool}

/-- The column numbers. -/
abbrev iot : IVec S1x2048 32 := iota .tc S1x2048 32 [1] iota_S1x2048_d1_w32

theorem first_rep {M : IVec S1x2048 1} (hM : RepK (k0_pay81 (F := Ideal) M) v) :
    RepB 0 (k0_pay82 (F := Ideal) M) (gseq s v 0) := fun l => by
  refine Eq.trans ?_ ((hM ⟨l.val, by omega⟩).trans (by rw [Nat.zero_add]; rfl))
  pointwise [k0_pay82]

theorem cat1 {M : IVec S1x2048 1} (hM : RepK (k0_pay81 (F := Ideal) M) v) {D : FVec Ideal S1x256 .f32}
    (hD : RepB 0 D (gseq s v (0 + 256))) : RepK (k0_pay84 M D) (mk s v 256) := fun r => by
  refine cat_rep (lo := 0) (K := k0_pay81 (F := Ideal) M) (fun r => by simpa [mk] using hM r) hD r _ ?_ ?_
  · intro h h'
    pointwise [k0_pay84]
    rw [dif_pos (by omega)]
  · intro h
    pointwise [k0_pay84]
    rw [dif_neg (by omega)]
    congr 1
    apply congrArg; apply Fin.ext; dsimp only; omega

theorem cross1 {M : IVec S1x2048 1} {D : FVec Ideal S1x256 .f32} {C : Vec Ideal S2048x256 .f32}
    (hK : RepK (k0_pay84 M D) (mk s v 256)) (hC : RepC 256 C s) :
    RepB 256 (k0_pay88 (k0_pay85 M D) (k0_pay86 M D C) (k0_pay87 (F := Ideal))) (gseq s v 256) := fun l => by
  rw [← cross_rep (by norm_num) hK hC]
  pointwise [k0_pay88, k0_pay85, k0_pay86, k0_pay87]

theorem cat2 {K : FVec Ideal S1x2048 .f32} {D : FVec Ideal S1x256 .f32} (hK : RepK K (mk s v 256))
    (hD : RepB 256 D (gseq s v (256 + 256))) : RepK (k0_pay90 K D) (mk s v 512) := fun r => by
  refine cat_rep hK hD r _ ?_ ?_
  · intro h h'
    pointwise [k0_pay90]
    rw [dif_neg (by omega), dif_pos (by omega)]
  · rintro (h | h)
    · pointwise [k0_pay90]
      rw [dif_pos (by omega)]
    · pointwise [k0_pay90]
      rw [dif_neg (by omega), dif_neg (by omega)]
      congr 1
      apply congrArg; apply Fin.ext; dsimp only; omega

theorem cross2 {K : FVec Ideal S1x2048 .f32} {D : FVec Ideal S1x256 .f32} {C : Vec Ideal S2048x256 .f32}
    (hK : RepK (k0_pay90 K D) (mk s v 512)) (hC : RepC 512 C s) :
    RepB 512 (k0_pay91 iot K D C) (gseq s v 512) := fun l => by
  rw [← cross_rep (by norm_num) hK hC]
  pointwise [k0_pay91]

theorem cat3 {K : FVec Ideal S1x2048 .f32} {E : FVec Ideal S1x256 .f32} {D : FVec Ideal S1x256 .f32} (hK : RepK (k0_pay90 K E) (mk s v 512))
    (hD : RepB 512 D (gseq s v (512 + 256))) : RepK (k0_pay93 K E D) (mk s v 768) := fun r => by
  refine cat_rep hK hD r _ ?_ ?_
  · intro h h'
    pointwise [k0_pay93]
    rw [dif_neg (by omega), dif_pos (by omega)]
  · rintro (h | h)
    · pointwise [k0_pay93]
      rw [dif_pos (by omega)]
    · pointwise [k0_pay93]
      rw [dif_neg (by omega), dif_neg (by omega)]
      congr 1
      apply congrArg; apply Fin.ext; dsimp only; omega

theorem cross3 {K : FVec Ideal S1x2048 .f32} {E : FVec Ideal S1x256 .f32} {D : FVec Ideal S1x256 .f32} {C : Vec Ideal S2048x256 .f32}
    (hK : RepK (k0_pay93 K E D) (mk s v 768)) (hC : RepC 768 C s) :
    RepB 768 (k0_pay96 (k0_pay94 K E D) (k0_pay95 iot K E D C)) (gseq s v 768) := fun l => by
  rw [← cross_rep (by norm_num) hK hC]
  pointwise [k0_pay96, k0_pay94, k0_pay95]

theorem cat4 {K : FVec Ideal S1x2048 .f32} {D : FVec Ideal S1x256 .f32} (hK : RepK K (mk s v 768))
    (hD : RepB 768 D (gseq s v (768 + 256))) : RepK (k0_pay98 K D) (mk s v 1024) := fun r => by
  refine cat_rep hK hD r _ ?_ ?_
  · intro h h'
    pointwise [k0_pay98]
    rw [dif_neg (by omega), dif_pos (by omega)]
  · rintro (h | h)
    · pointwise [k0_pay98]
      rw [dif_pos (by omega)]
    · pointwise [k0_pay98]
      rw [dif_neg (by omega), dif_neg (by omega)]
      congr 1
      apply congrArg; apply Fin.ext; dsimp only; omega

theorem cross4 {K : FVec Ideal S1x2048 .f32} {D : FVec Ideal S1x256 .f32} {C : Vec Ideal S2048x256 .f32}
    (hK : RepK (k0_pay98 K D) (mk s v 1024)) (hC : RepC 1024 C s) :
    RepB 1024 (k0_pay99 iot K D C) (gseq s v 1024) := fun l => by
  rw [← cross_rep (by norm_num) hK hC]
  pointwise [k0_pay99]

theorem cat5 {K : FVec Ideal S1x2048 .f32} {E : FVec Ideal S1x256 .f32} {D : FVec Ideal S1x256 .f32} (hK : RepK (k0_pay98 K E) (mk s v 1024))
    (hD : RepB 1024 D (gseq s v (1024 + 256))) : RepK (k0_pay101 K E D) (mk s v 1280) := fun r => by
  refine cat_rep hK hD r _ ?_ ?_
  · intro h h'
    pointwise [k0_pay101]
    rw [dif_neg (by omega), dif_pos (by omega)]
  · rintro (h | h)
    · pointwise [k0_pay101]
      rw [dif_pos (by omega)]
    · pointwise [k0_pay101]
      rw [dif_neg (by omega), dif_neg (by omega)]
      congr 1
      apply congrArg; apply Fin.ext; dsimp only; omega

theorem cross5 {K : FVec Ideal S1x2048 .f32} {E : FVec Ideal S1x256 .f32} {D : FVec Ideal S1x256 .f32} {C : Vec Ideal S2048x256 .f32}
    (hK : RepK (k0_pay101 K E D) (mk s v 1280)) (hC : RepC 1280 C s) :
    RepB 1280 (k0_pay104 (k0_pay102 K E D) (k0_pay103 iot K E D C) (FloatOps.ofBits .f32 0x00000000#32)) (gseq s v 1280) := fun l => by
  rw [← cross_rep (by norm_num) hK hC]
  pointwise [k0_pay104, k0_pay102, k0_pay103]

theorem cat6 {K : FVec Ideal S1x2048 .f32} {D : FVec Ideal S1x256 .f32} (hK : RepK K (mk s v 1280))
    (hD : RepB 1280 D (gseq s v (1280 + 256))) : RepK (k0_pay106 K D) (mk s v 1536) := fun r => by
  refine cat_rep hK hD r _ ?_ ?_
  · intro h h'
    pointwise [k0_pay106]
    rw [dif_neg (by omega), dif_pos (by omega)]
  · rintro (h | h)
    · pointwise [k0_pay106]
      rw [dif_pos (by omega)]
    · pointwise [k0_pay106]
      rw [dif_neg (by omega), dif_neg (by omega)]
      congr 1
      apply congrArg; apply Fin.ext; dsimp only; omega

theorem cross6 {K : FVec Ideal S1x2048 .f32} {D : FVec Ideal S1x256 .f32} {C : Vec Ideal S2048x256 .f32}
    (hK : RepK (k0_pay106 K D) (mk s v 1536)) (hC : RepC 1536 C s) :
    RepB 1536 (k0_pay107 iot K D C) (gseq s v 1536) := fun l => by
  rw [← cross_rep (by norm_num) hK hC]
  pointwise [k0_pay107]

theorem cat7 {K : FVec Ideal S1x2048 .f32} {E : FVec Ideal S1x256 .f32} {D : FVec Ideal S1x256 .f32} (hK : RepK (k0_pay106 K E) (mk s v 1536))
    (hD : RepB 1536 D (gseq s v (1536 + 256))) : RepK (k0_pay109 K E D) (mk s v 1792) := fun r => by
  refine cat_rep hK hD r _ ?_ ?_
  · intro h h'
    pointwise [k0_pay109]
    rw [dif_neg (by omega), dif_pos (by omega)]
  · rintro (h | h)
    · pointwise [k0_pay109]
      rw [dif_pos (by omega)]
    · pointwise [k0_pay109]
      rw [dif_neg (by omega), dif_neg (by omega)]
      congr 1
      apply congrArg; apply Fin.ext; dsimp only; omega

theorem cross7 {K : FVec Ideal S1x2048 .f32} {E : FVec Ideal S1x256 .f32} {D : FVec Ideal S1x256 .f32} {C : Vec Ideal S2048x256 .f32}
    (hK : RepK (k0_pay109 K E D) (mk s v 1792)) (hC : RepC 1792 C s) :
    RepB 1792 (k0_pay1 (k0_pay110 K E D) (k0_pay111 iot K E D) C (constant S1x256 .f32 0x00000000#32)) (gseq s v 1792) := fun l => by
  rw [← cross_rep (by norm_num) hK hC]
  pointwise [k0_pay1, k0_pay110, k0_pay111]

/-- The last block and the scores: kept boxes keep theirs. -/
theorem last_rep {K : FVec Ideal S1x2048 .f32} {D : FVec Ideal S1x256 .f32} (sc : Vec Ideal S1x2048 .f32)
    (hK : RepK K (mk s v 1792)) (hD : RepB 1792 D (gseq s v (1792 + 256))) (r : Fin 2048) :
    k0_pay3 K D sc (ix2 0 r) = if gseq s v 2048 r.val = true then sc (ix2 0 r) else Ideal.ofBits .f32 0xD01502F9#32 := by
  have h := cat_rep hK hD r (if h : r.val < 1792 then K (ix2 0 r) else D (ix2 0 ⟨r.val - 1792, by omega⟩))
    (fun h h' => dif_neg (by omega)) (fun h => dif_pos (by omega))
  pointwise [k0_pay3]
  rw [h]
  simp only [bl_pos, mk, if_pos r.isLt]

end Cert.Proof.Ker
-- ==== Proof.KOut.lean ====
/- What one run of the kernel's body leaves: the decoded boxes, and the scores of the boxes the greedy sequence keeps. -/
module

public import proofs.«01_k».proof.Proof.Chain
public import proofs.«01_k».proof.Proof.Gen.KernelIdeal.Frame
public import Idealize.ShloMosaic.Lib.Pipeline.FrameBody
public import Idealize.ShloMosaic.Lib.Pipeline.Value

@[expose] public section

set_option maxRecDepth 16384

noncomputable section

namespace Cert.Proof.Ker

open Cert.KernelIdeal Cert.KernelIdeal.Gen
open Idealize.ShloMosaic Idealize.ShloMosaic.TcCoe

/-- Position `i` among 2048. -/
def ofN (i : Nat) : Fin 2048 := ⟨i % 2048, Nat.mod_lt _ (by norm_num)⟩

theorem ofN_val (r : Fin 2048) : ofN r.val = r := Fin.ext (Nat.mod_eq_of_lt r.isLt)

theorem ofN_lt {i : Nat} (h : i < 2048) : ofN i = ⟨i, h⟩ := Fin.ext (Nat.mod_eq_of_lt h)

/-- The overlaps the kernel computes, from the two decoded tables. -/
def sK (x0 x1 : Vec Ideal S2048x4 .f32) (x2 x3 : Vec Ideal S8x2048 .f32) (i j : Nat) : Bool :=
  ov (bx (rowOf x0 (ofN i)) (rowOf x1 (ofN i))) (bx (colOf x2 (ofN j)) (colOf x3 (ofN j)))

/-- The mask the kernel starts from. -/
def vK (x2 x3 : Vec Ideal S8x2048 .f32) (j : Nat) : Bool := vd (bx (colOf x2 (ofN j)) (colOf x3 (ofN j)))

/-- The overlap matrix. -/
def matG (x0 x1 : Vec Ideal S2048x4 .f32) (x2 x3 : Vec Ideal S8x2048 .f32) : S2048x2048.Idx → EReal :=
  fun y => bl (sK x0 x1 x2 x3 (y 0).val (y 1).val)

theorem matG_at (x0 x1 : Vec Ideal S2048x4 .f32) (x2 x3 : Vec Ideal S8x2048 .f32) (y : S2048x2048.Idx) {i j : Nat}
    (hi : (y 0).val = i) (hj : (y 1).val = j) : matG x0 x1 x2 x3 y = bl (sK x0 x1 x2 x3 i j) := by
  subst hi hj; rfl

variable (c : Dev nD)
  (arg0 : Memref sig .tc .vmem S2048x4 .f32) (harg0 : arg0.IsWhole) (arg1 : Memref sig .tc .vmem S2048x4 .f32) (harg1 : arg1.IsWhole)
  (arg2 : Memref sig .tc .vmem S8x2048 .f32) (harg2 : arg2.IsWhole) (arg3 : Memref sig .tc .vmem S8x2048 .f32) (harg3 : arg3.IsWhole)
  (arg4 : Memref sig .tc .vmem S1x2048 .f32) (harg4 : arg4.IsWhole) (arg5 : Memref sig .tc .vmem S2048x4 .f32) (harg5 : arg5.IsWhole)
  (arg6 : Memref sig .tc .vmem S1x2048 .f32) (harg6 : arg6.IsWhole) (arg7 : Memref sig .tc .vmem S2048x2048 .f32) (harg7 : arg7.IsWhole)
  (x0 x1 : Vec Ideal S2048x4 .f32) (x2 x3 : Vec Ideal S8x2048 .f32) (x4 : Vec Ideal S1x2048 .f32)

/-- A box's coordinate, in place. -/
theorem box_at (y : S2048x4.Idx) {k : Fin 2048} {q : Fin 4} (h0 : (y 0).val = k.val) (h1 : (y 1).val = q.val) :
    bx (rowOf x0 k) (rowOf x1 k) q = bx (rowOf x0 (y 0)) (rowOf x1 (y 0)) (y 1) := by
  rw [show y 0 = k from Fin.ext h0, show y 1 = q from Fin.ext h1]

theorem rdB (arg : Memref sig .tc .vmem S2048x4 .f32) (harg : arg.IsWhole) (x : Vec Ideal S2048x4 .f32) :
    View.readAt (Elt Ideal) arg.view (Rect.unit ![0, 0] S2048x4.size inb_S2048x4_S2048x4_0_0).toLoadRect (harg.unread x) = x := by
  rw [View.readAt_eq_ld, Memref.IsWhole.read_unread]
  exact View.ld_unit_zero (by funext a; fin_cases a <;> rfl) _ x

theorem rdT (arg : Memref sig .tc .vmem S8x2048 .f32) (harg : arg.IsWhole) (x : Vec Ideal S8x2048 .f32) :
    View.readAt (Elt Ideal) arg.view (Rect.unit ![0, 0] S8x2048.size inb_S8x2048_S8x2048_0_0).toLoadRect (harg.unread x) = x := by
  rw [View.readAt_eq_ld, Memref.IsWhole.read_unread]
  exact View.ld_unit_zero (by funext a; fin_cases a <;> rfl) _ x

theorem rdS (arg : Memref sig .tc .vmem S1x2048 .f32) (harg : arg.IsWhole) (x : Vec Ideal S1x2048 .f32) :
    View.readAt (Elt Ideal) arg.view (Rect.unit ![0, 0] S1x2048.size inb_S1x2048_S1x2048_0_0).toLoadRect (harg.unread x) = x := by
  rw [View.readAt_eq_ld, Memref.IsWhole.read_unread]
  exact View.ld_unit_zero (by funext a; fin_cases a <;> rfl) _ x

theorem r4_val (r : Fin 2048) : kernelRun0_A.sl.r_4 (F := Ideal) c arg0 harg0 arg1 harg1 x0 x1 (ix2 r 0) = bx (rowOf x0 r) (rowOf x1 r) 0 := by
  delta kernelRun0_A.sl.r_4
  rw [rdB arg0 harg0, rdB arg1 harg1]
  exact col0 x0 x1 r

theorem r5_val (r : Fin 2048) : kernelRun0_A.sl.r_5 (F := Ideal) c arg0 harg0 arg1 harg1 x0 x1 (ix2 r 0) = bx (rowOf x0 r) (rowOf x1 r) 1 := by
  delta kernelRun0_A.sl.r_5
  rw [rdB arg0 harg0, rdB arg1 harg1]
  exact col1 x0 x1 r

theorem r6_val (r : Fin 2048) : kernelRun0_A.sl.r_6 (F := Ideal) c arg0 harg0 arg1 harg1 x0 x1 (ix2 r 0) = bx (rowOf x0 r) (rowOf x1 r) 2 := by
  delta kernelRun0_A.sl.r_6 kernelRun0_A.sl.r kernelRun0_A.sl.r_2
  rw [rdB arg0 harg0, rdB arg1 harg1]
  exact col2 x0 x1 r

theorem r7_val (r : Fin 2048) : kernelRun0_A.sl.r_7 (F := Ideal) c arg0 harg0 arg1 harg1 x0 x1 (ix2 r 0) = bx (rowOf x0 r) (rowOf x1 r) 3 := by
  delta kernelRun0_A.sl.r_7 kernelRun0_A.sl.r_1 kernelRun0_A.sl.r_3
  rw [rdB arg0 harg0, rdB arg1 harg1]
  exact col3 x0 x1 r

theorem r16_val (r : Fin 2048) : kernelRun0_A.sl.r_16 (F := Ideal) c arg2 harg2 arg3 harg3 x2 x3 (ix2 0 r) = bx (colOf x2 r) (colOf x3 r) 0 := by
  delta kernelRun0_A.sl.r_16 kernelRun0_A.sl.r_8 kernelRun0_A.sl.r_10 kernelRun0_A.sl.r_12 kernelRun0_A.sl.r_14
  rw [rdT arg2 harg2, rdT arg3 harg3]
  exact row0 x2 x3 r

theorem r17_val (r : Fin 2048) : kernelRun0_A.sl.r_17 (F := Ideal) c arg2 harg2 arg3 harg3 x2 x3 (ix2 0 r) = bx (colOf x2 r) (colOf x3 r) 1 := by
  delta kernelRun0_A.sl.r_17 kernelRun0_A.sl.r_9 kernelRun0_A.sl.r_11 kernelRun0_A.sl.r_13 kernelRun0_A.sl.r_15
  rw [rdT arg2 harg2, rdT arg3 harg3]
  exact row1 x2 x3 r

theorem r18_val (r : Fin 2048) : kernelRun0_A.sl.r_18 (F := Ideal) c arg2 harg2 arg3 harg3 x2 x3 (ix2 0 r) = bx (colOf x2 r) (colOf x3 r) 2 := by
  delta kernelRun0_A.sl.r_18 kernelRun0_A.sl.r_8 kernelRun0_A.sl.r_10 kernelRun0_A.sl.r_12 kernelRun0_A.sl.r_14
  rw [rdT arg2 harg2, rdT arg3 harg3]
  exact row2 x2 x3 r

theorem r19_val (r : Fin 2048) : kernelRun0_A.sl.r_19 (F := Ideal) c arg2 harg2 arg3 harg3 x2 x3 (ix2 0 r) = bx (colOf x2 r) (colOf x3 r) 3 := by
  delta kernelRun0_A.sl.r_19 kernelRun0_A.sl.r_9 kernelRun0_A.sl.r_11 kernelRun0_A.sl.r_13 kernelRun0_A.sl.r_15
  rw [rdT arg2 harg2, rdT arg3 harg3]
  exact row3 x2 x3 r

theorem quad_val (r : Fin 2048) : quad (kernelRun0_A.sl.r_4 c arg0 harg0 arg1 harg1 x0 x1) (kernelRun0_A.sl.r_5 c arg0 harg0 arg1 harg1 x0 x1) (kernelRun0_A.sl.r_6 c arg0 harg0 arg1 harg1 x0 x1) (kernelRun0_A.sl.r_7 c arg0 harg0 arg1 harg1 x0 x1) r = bx (rowOf x0 r) (rowOf x1 r) := by
  funext q
  fin_cases q
  · exact r4_val c arg0 harg0 arg1 harg1 x0 x1 r
  · exact r5_val c arg0 harg0 arg1 harg1 x0 x1 r
  · exact r6_val c arg0 harg0 arg1 harg1 x0 x1 r
  · exact r7_val c arg0 harg0 arg1 harg1 x0 x1 r

theorem quadT_val (r : Fin 2048) : quadT (kernelRun0_A.sl.r_16 c arg2 harg2 arg3 harg3 x2 x3) (kernelRun0_A.sl.r_17 c arg2 harg2 arg3 harg3 x2 x3) (kernelRun0_A.sl.r_18 c arg2 harg2 arg3 harg3 x2 x3) (kernelRun0_A.sl.r_19 c arg2 harg2 arg3 harg3 x2 x3) r = bx (colOf x2 r) (colOf x3 r) := by
  funext q
  fin_cases q
  · exact r16_val c arg2 harg2 arg3 harg3 x2 x3 r
  · exact r17_val c arg2 harg2 arg3 harg3 x2 x3 r
  · exact r18_val c arg2 harg2 arg3 harg3 x2 x3 r
  · exact r19_val c arg2 harg2 arg3 harg3 x2 x3 r

theorem r20_val (r : Fin 2048) : kernelRun0_A.sl.r_20 (F := Ideal) c arg2 harg2 arg3 harg3 x2 x3 (ix2 0 r) = area (bx (colOf x2 r) (colOf x3 r)) := by
  rw [← quadT_val c arg2 harg2 arg3 harg3 x2 x3 r]
  exact row_area _ _ _ _ _ _ _ _ r

theorem r22_rep : RepK (k0_pay81 (F := Ideal) (kernelRun0_A.sl.r_22 c arg2 harg2 arg3 harg3 x2 x3)) (vK x2 x3) := fun r => by
  unfold vK
  rw [ofN_val, ← quadT_val c arg2 harg2 arg3 harg3 x2 x3 r]
  exact row_valid _ _ _ _ _ _ _ _ r

/-- One block of rows, in place. -/
theorem block_at {y : S2048x2048.Idx} {k : Nat} (r : Fin 256) (l : Fin 2048) (hk : k + 256 ≤ 2048) (h0 : (y 0).val = k + r.val)
    (h1 : (y 1).val = l.val) :
    bl (ovA (quad (kernelRun0_A.sl.r_4 c arg0 harg0 arg1 harg1 x0 x1) (kernelRun0_A.sl.r_5 c arg0 harg0 arg1 harg1 x0 x1) (kernelRun0_A.sl.r_6 c arg0 harg0 arg1 harg1 x0 x1) (kernelRun0_A.sl.r_7 c arg0 harg0 arg1 harg1 x0 x1) ⟨k + r.val, by omega⟩)
      (quadT (kernelRun0_A.sl.r_16 c arg2 harg2 arg3 harg3 x2 x3) (kernelRun0_A.sl.r_17 c arg2 harg2 arg3 harg3 x2 x3) (kernelRun0_A.sl.r_18 c arg2 harg2 arg3 harg3 x2 x3) (kernelRun0_A.sl.r_19 c arg2 harg2 arg3 harg3 x2 x3) l) (kernelRun0_A.sl.r_20 c arg2 harg2 arg3 harg3 x2 x3 (ix2 0 l))) = matG x0 x1 x2 x3 y := by
  rw [matG_at x0 x1 x2 x3 y h0 h1, quad_val, quadT_val, r20_val]
  unfold sK
  rw [ofN_val, ofN_lt (show k + r.val < 2048 by omega)]
  rfl

theorem mat_val (y : S2048x2048.Idx) :
    View.canon (kernelRun0_A.sl.HS0_8 (F := Ideal) c arg0 harg0 arg1 harg1 arg2 harg2 arg3 harg3 x0 x1 x2 x3) y = matG x0 x1 x2 x3 y := by
  refine View.canon_apply_of_pieces (Val := Elt Ideal) (e := .f32) (matG x0 x1 x2 x3) _ ?_ y
    (View.cover_of_tiledL (s := S2048x2048) _ S256x2048.size (by sl_kernel_rfl) y)
  delta kernelRun0_A.sl.HS0_8
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk7 _ _ _ _ _ _ _ _ _ r l) (block_at c arg0 harg0 arg1 harg1 arg2 harg2 arg3 harg3 x0 x1 x2 x3 r l (by norm_num) ?_ ?_) <;> simp
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk6 _ _ _ _ _ _ _ _ _ r l) (block_at c arg0 harg0 arg1 harg1 arg2 harg2 arg3 harg3 x0 x1 x2 x3 r l (by norm_num) ?_ ?_) <;> simp
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk5 _ _ _ _ _ _ _ _ _ r l) (block_at c arg0 harg0 arg1 harg1 arg2 harg2 arg3 harg3 x0 x1 x2 x3 r l (by norm_num) ?_ ?_) <;> simp
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk4 _ _ _ _ _ _ _ _ _ r l) (block_at c arg0 harg0 arg1 harg1 arg2 harg2 arg3 harg3 x0 x1 x2 x3 r l (by norm_num) ?_ ?_) <;> simp
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk3 _ _ _ _ _ _ _ _ _ r l) (block_at c arg0 harg0 arg1 harg1 arg2 harg2 arg3 harg3 x0 x1 x2 x3 r l (by norm_num) ?_ ?_) <;> simp
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk2 _ _ _ _ _ _ _ _ _ r l) (block_at c arg0 harg0 arg1 harg1 arg2 harg2 arg3 harg3 x0 x1 x2 x3 r l (by norm_num) ?_ ?_) <;> simp
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk1 _ _ _ _ _ _ _ _ _ r l) (block_at c arg0 harg0 arg1 harg1 arg2 harg2 arg3 harg3 x0 x1 x2 x3 r l (by norm_num) ?_ ?_) <;> simp
  refine List.forall_mem_cons.2 ⟨fun x => ?_, ?_⟩
  · obtain ⟨r, l, rfl⟩ : ∃ (r : Fin 256) (l : Fin 2048), x = ix2 r l := ⟨x 0, x 1, (eq_ix2 x)⟩
    refine Eq.trans (blk0 _ _ _ _ _ _ _ _ _ r l) (block_at c arg0 harg0 arg1 harg1 arg2 harg2 arg3 harg3 x0 x1 x2 x3 r l (by norm_num) ?_ ?_) <;> simp
  exact fun p hp => absurd hp List.not_mem_nil

theorem v470_rep : RepC 256 (kernelRun0_A.sl.v470 (F := Ideal) c arg0 harg0 arg1 harg1 arg2 harg2 arg3 harg3 arg7 x0 x1 x2 x3) (sK x0 x1 x2 x3) := fun x l => by
  delta kernelRun0_A.sl.v470
  rw [View.readCov_eq_canon']
  dsimp only
  rw [mat_val]
  refine matG_at _ _ _ _ _ ?_ ?_ <;> simp

theorem v488_rep : RepC 512 (kernelRun0_A.sl.v488 (F := Ideal) c arg0 harg0 arg1 harg1 arg2 harg2 arg3 harg3 arg7 x0 x1 x2 x3) (sK x0 x1 x2 x3) := fun x l => by
  delta kernelRun0_A.sl.v488
  rw [View.readCov_eq_canon']
  dsimp only
  rw [mat_val]
  refine matG_at _ _ _ _ _ ?_ ?_ <;> simp

theorem v506_rep : RepC 768 (kernelRun0_A.sl.v506 (F := Ideal) c arg0 harg0 arg1 harg1 arg2 harg2 arg3 harg3 arg7 x0 x1 x2 x3) (sK x0 x1 x2 x3) := fun x l => by
  delta kernelRun0_A.sl.v506
  rw [View.readCov_eq_canon']
  dsimp only
  rw [mat_val]
  refine matG_at _ _ _ _ _ ?_ ?_ <;> simp

theorem v524_rep : RepC 1024 (kernelRun0_A.sl.v524 (F := Ideal) c arg0 harg0 arg1 harg1 arg2 harg2 arg3 harg3 arg7 x0 x1 x2 x3) (sK x0 x1 x2 x3) := fun x l => by
  delta kernelRun0_A.sl.v524
  rw [View.readCov_eq_canon']
  dsimp only
  rw [mat_val]
  refine matG_at _ _ _ _ _ ?_ ?_ <;> simp

theorem v542_rep : RepC 1280 (kernelRun0_A.sl.v542 (F := Ideal) c arg0 harg0 arg1 harg1 arg2 harg2 arg3 harg3 arg7 x0 x1 x2 x3) (sK x0 x1 x2 x3) := fun x l => by
  delta kernelRun0_A.sl.v542
  rw [View.readCov_eq_canon']
  dsimp only
  rw [mat_val]
  refine matG_at _ _ _ _ _ ?_ ?_ <;> simp

theorem v560_rep : RepC 1536 (kernelRun0_A.sl.v560 (F := Ideal) c arg0 harg0 arg1 harg1 arg2 harg2 arg3 harg3 arg7 x0 x1 x2 x3) (sK x0 x1 x2 x3) := fun x l => by
  delta kernelRun0_A.sl.v560
  rw [View.readCov_eq_canon']
  dsimp only
  rw [mat_val]
  refine matG_at _ _ _ _ _ ?_ ?_ <;> simp

theorem v578_rep : RepC 1792 (kernelRun0_A.sl.v578 (F := Ideal) c arg0 harg0 arg1 harg1 arg2 harg2 arg3 harg3 arg7 x0 x1 x2 x3) (sK x0 x1 x2 x3) := fun x l => by
  delta kernelRun0_A.sl.v578
  rw [View.readCov_eq_canon']
  dsimp only
  rw [mat_val]
  refine matG_at _ _ _ _ _ ?_ ?_ <;> simp

theorem v459_rep : RepD 0 (kernelRun0_A.sl.v459 (F := Ideal) c arg0 harg0 arg1 harg1 arg2 harg2 arg3 harg3 arg7 x0 x1 x2 x3) (sK x0 x1 x2 x3) := fun x l => by
  delta kernelRun0_A.sl.v459
  rw [View.readCov_eq_canon']
  dsimp only
  rw [mat_val]
  refine matG_at _ _ _ _ _ ?_ ?_ <;> simp

theorem v476_rep : RepD 256 (kernelRun0_A.sl.v476 (F := Ideal) c arg0 harg0 arg1 harg1 arg2 harg2 arg3 harg3 arg7 x0 x1 x2 x3) (sK x0 x1 x2 x3) := fun x l => by
  delta kernelRun0_A.sl.v476
  rw [View.readCov_eq_canon']
  dsimp only
  rw [mat_val]
  refine matG_at _ _ _ _ _ ?_ ?_ <;> simp

theorem v494_rep : RepD 512 (kernelRun0_A.sl.v494 (F := Ideal) c arg0 harg0 arg1 harg1 arg2 harg2 arg3 harg3 arg7 x0 x1 x2 x3) (sK x0 x1 x2 x3) := fun x l => by
  delta kernelRun0_A.sl.v494
  rw [View.readCov_eq_canon']
  dsimp only
  rw [mat_val]
  refine matG_at _ _ _ _ _ ?_ ?_ <;> simp

theorem v512_rep : RepD 768 (kernelRun0_A.sl.v512 (F := Ideal) c arg0 harg0 arg1 harg1 arg2 harg2 arg3 harg3 arg7 x0 x1 x2 x3) (sK x0 x1 x2 x3) := fun x l => by
  delta kernelRun0_A.sl.v512
  rw [View.readCov_eq_canon']
  dsimp only
  rw [mat_val]
  refine matG_at _ _ _ _ _ ?_ ?_ <;> simp

theorem v530_rep : RepD 1024 (kernelRun0_A.sl.v530 (F := Ideal) c arg0 harg0 arg1 harg1 arg2 harg2 arg3 harg3 arg7 x0 x1 x2 x3) (sK x0 x1 x2 x3) := fun x l => by
  delta kernelRun0_A.sl.v530
  rw [View.readCov_eq_canon']
  dsimp only
  rw [mat_val]
  refine matG_at _ _ _ _ _ ?_ ?_ <;> simp

theorem v548_rep : RepD 1280 (kernelRun0_A.sl.v548 (F := Ideal) c arg0 harg0 arg1 harg1 arg2 harg2 arg3 harg3 arg7 x0 x1 x2 x3) (sK x0 x1 x2 x3) := fun x l => by
  delta kernelRun0_A.sl.v548
  rw [View.readCov_eq_canon']
  dsimp only
  rw [mat_val]
  refine matG_at _ _ _ _ _ ?_ ?_ <;> simp

theorem v566_rep : RepD 1536 (kernelRun0_A.sl.v566 (F := Ideal) c arg0 harg0 arg1 harg1 arg2 harg2 arg3 harg3 arg7 x0 x1 x2 x3) (sK x0 x1 x2 x3) := fun x l => by
  delta kernelRun0_A.sl.v566
  rw [View.readCov_eq_canon']
  dsimp only
  rw [mat_val]
  refine matG_at _ _ _ _ _ ?_ ?_ <;> simp

theorem v584_rep : RepD 1792 (kernelRun0_A.sl.v584 (F := Ideal) c arg0 harg0 arg1 harg1 arg2 harg2 arg3 harg3 arg7 x0 x1 x2 x3) (sK x0 x1 x2 x3) := fun x l => by
  delta kernelRun0_A.sl.v584
  rw [View.readCov_eq_canon']
  dsimp only
  rw [mat_val]
  refine matG_at _ _ _ _ _ ?_ ?_ <;> simp

theorem r43_rep : RepB 0 (kernelRun0_A.sl.r_43 (F := Ideal) c arg0 harg0 arg1 harg1 arg2 harg2 arg3 harg3 arg7 x0 x1 x2 x3) (gseq (sK x0 x1 x2 x3) (vK x2 x3) (0 + 256)) := by
  delta kernelRun0_A.sl.r_43
  exact fold_rep (v459_rep c arg0 harg0 arg1 harg1 arg2 harg2 arg3 harg3 arg7 x0 x1 x2 x3) (first_rep (r22_rep c arg2 harg2 arg3 harg3 x2 x3))

theorem r44_rep : RepK (kernelRun0_A.sl.r_44 (F := Ideal) c arg0 harg0 arg1 harg1 arg2 harg2 arg3 harg3 arg7 x0 x1 x2 x3) (mk (sK x0 x1 x2 x3) (vK x2 x3) 256) := by
  delta kernelRun0_A.sl.r_44
  exact cat1 (r22_rep c arg2 harg2 arg3 harg3 x2 x3) (r43_rep c arg0 harg0 arg1 harg1 arg2 harg2 arg3 harg3 arg7 x0 x1 x2 x3)

theorem r47_rep : RepB 256 (kernelRun0_A.sl.r_47 (F := Ideal) c arg0 harg0 arg1 harg1 arg2 harg2 arg3 harg3 arg7 x0 x1 x2 x3) (gseq (sK x0 x1 x2 x3) (vK x2 x3) (256 + 256)) := by
  delta kernelRun0_A.sl.r_47
  refine fold_rep (v476_rep c arg0 harg0 arg1 harg1 arg2 harg2 arg3 harg3 arg7 x0 x1 x2 x3) ?_
  delta kernelRun0_A.sl.r_45 kernelRun0_A.sl.r_46
  exact cross1 (cat1 (r22_rep c arg2 harg2 arg3 harg3 x2 x3) (r43_rep c arg0 harg0 arg1 harg1 arg2 harg2 arg3 harg3 arg7 x0 x1 x2 x3)) (v470_rep c arg0 harg0 arg1 harg1 arg2 harg2 arg3 harg3 arg7 x0 x1 x2 x3)

theorem r48_rep : RepB 512 (kernelRun0_A.sl.r_48 (F := Ideal) c arg0 harg0 arg1 harg1 arg2 harg2 arg3 harg3 arg7 x0 x1 x2 x3) (gseq (sK x0 x1 x2 x3) (vK x2 x3) (512 + 256)) := by
  delta kernelRun0_A.sl.r_48
  refine fold_rep (v494_rep c arg0 harg0 arg1 harg1 arg2 harg2 arg3 harg3 arg7 x0 x1 x2 x3) ?_
  skip
  exact cross2 (cat2 (r44_rep c arg0 harg0 arg1 harg1 arg2 harg2 arg3 harg3 arg7 x0 x1 x2 x3) (r47_rep c arg0 harg0 arg1 harg1 arg2 harg2 arg3 harg3 arg7 x0 x1 x2 x3)) (v488_rep c arg0 harg0 arg1 harg1 arg2 harg2 arg3 harg3 arg7 x0 x1 x2 x3)

theorem r49_rep : RepK (kernelRun0_A.sl.r_49 (F := Ideal) c arg0 harg0 arg1 harg1 arg2 harg2 arg3 harg3 arg7 x0 x1 x2 x3) (mk (sK x0 x1 x2 x3) (vK x2 x3) 768) := by
  delta kernelRun0_A.sl.r_49
  exact cat3 (cat2 (r44_rep c arg0 harg0 arg1 harg1 arg2 harg2 arg3 harg3 arg7 x0 x1 x2 x3) (r47_rep c arg0 harg0 arg1 harg1 arg2 harg2 arg3 harg3 arg7 x0 x1 x2 x3)) (r48_rep c arg0 harg0 arg1 harg1 arg2 harg2 arg3 harg3 arg7 x0 x1 x2 x3)

theorem r52_rep : RepB 768 (kernelRun0_A.sl.r_52 (F := Ideal) c arg0 harg0 arg1 harg1 arg2 harg2 arg3 harg3 arg7 x0 x1 x2 x3) (gseq (sK x0 x1 x2 x3) (vK x2 x3) (768 + 256)) := by
  delta kernelRun0_A.sl.r_52
  refine fold_rep (v512_rep c arg0 harg0 arg1 harg1 arg2 harg2 arg3 harg3 arg7 x0 x1 x2 x3) ?_
  delta kernelRun0_A.sl.r_50 kernelRun0_A.sl.r_51
  exact cross3 (cat3 (cat2 (r44_rep c arg0 harg0 arg1 harg1 arg2 harg2 arg3 harg3 arg7 x0 x1 x2 x3) (r47_rep c arg0 harg0 arg1 harg1 arg2 harg2 arg3 harg3 arg7 x0 x1 x2 x3)) (r48_rep c arg0 harg0 arg1 harg1 arg2 harg2 arg3 harg3 arg7 x0 x1 x2 x3)) (v506_rep c arg0 harg0 arg1 harg1 arg2 harg2 arg3 harg3 arg7 x0 x1 x2 x3)

theorem r53_rep : RepB 1024 (kernelRun0_A.sl.r_53 (F := Ideal) c arg0 harg0 arg1 harg1 arg2 harg2 arg3 harg3 arg7 x0 x1 x2 x3) (gseq (sK x0 x1 x2 x3) (vK x2 x3) (1024 + 256)) := by
  delta kernelRun0_A.sl.r_53
  refine fold_rep (v530_rep c arg0 harg0 arg1 harg1 arg2 harg2 arg3 harg3 arg7 x0 x1 x2 x3) ?_
  skip
  exact cross4 (cat4 (r49_rep c arg0 harg0 arg1 harg1 arg2 harg2 arg3 harg3 arg7 x0 x1 x2 x3) (r52_rep c arg0 harg0 arg1 harg1 arg2 harg2 arg3 harg3 arg7 x0 x1 x2 x3)) (v524_rep c arg0 harg0 arg1 harg1 arg2 harg2 arg3 harg3 arg7 x0 x1 x2 x3)

theorem r54_rep : RepK (kernelRun0_A.sl.r_54 (F := Ideal) c arg0 harg0 arg1 harg1 arg2 harg2 arg3 harg3 arg7 x0 x1 x2 x3) (mk (sK x0 x1 x2 x3) (vK x2 x3) 1280) := by
  delta kernelRun0_A.sl.r_54
  exact cat5 (cat4 (r49_rep c arg0 harg0 arg1 harg1 arg2 harg2 arg3 harg3 arg7 x0 x1 x2 x3) (r52_rep c arg0 harg0 arg1 harg1 arg2 harg2 arg3 harg3 arg7 x0 x1 x2 x3)) (r53_rep c arg0 harg0 arg1 harg1 arg2 harg2 arg3 harg3 arg7 x0 x1 x2 x3)

theorem r57_rep : RepB 1280 (kernelRun0_A.sl.r_57 (F := Ideal) c arg0 harg0 arg1 harg1 arg2 harg2 arg3 harg3 arg7 x0 x1 x2 x3) (gseq (sK x0 x1 x2 x3) (vK x2 x3) (1280 + 256)) := by
  delta kernelRun0_A.sl.r_57
  refine fold_rep (v548_rep c arg0 harg0 arg1 harg1 arg2 harg2 arg3 harg3 arg7 x0 x1 x2 x3) ?_
  delta kernelRun0_A.sl.r_55 kernelRun0_A.sl.r_56
  exact cross5 (cat5 (cat4 (r49_rep c arg0 harg0 arg1 harg1 arg2 harg2 arg3 harg3 arg7 x0 x1 x2 x3) (r52_rep c arg0 harg0 arg1 harg1 arg2 harg2 arg3 harg3 arg7 x0 x1 x2 x3)) (r53_rep c arg0 harg0 arg1 harg1 arg2 harg2 arg3 harg3 arg7 x0 x1 x2 x3)) (v542_rep c arg0 harg0 arg1 harg1 arg2 harg2 arg3 harg3 arg7 x0 x1 x2 x3)

theorem r58_rep : RepB 1536 (kernelRun0_A.sl.r_58 (F := Ideal) c arg0 harg0 arg1 harg1 arg2 harg2 arg3 harg3 arg7 x0 x1 x2 x3) (gseq (sK x0 x1 x2 x3) (vK x2 x3) (1536 + 256)) := by
  delta kernelRun0_A.sl.r_58
  refine fold_rep (v566_rep c arg0 harg0 arg1 harg1 arg2 harg2 arg3 harg3 arg7 x0 x1 x2 x3) ?_
  skip
  exact cross6 (cat6 (r54_rep c arg0 harg0 arg1 harg1 arg2 harg2 arg3 harg3 arg7 x0 x1 x2 x3) (r57_rep c arg0 harg0 arg1 harg1 arg2 harg2 arg3 harg3 arg7 x0 x1 x2 x3)) (v560_rep c arg0 harg0 arg1 harg1 arg2 harg2 arg3 harg3 arg7 x0 x1 x2 x3)

theorem r59_rep : RepK (kernelRun0_A.sl.r_59 (F := Ideal) c arg0 harg0 arg1 harg1 arg2 harg2 arg3 harg3 arg7 x0 x1 x2 x3) (mk (sK x0 x1 x2 x3) (vK x2 x3) 1792) := by
  delta kernelRun0_A.sl.r_59
  exact cat7 (cat6 (r54_rep c arg0 harg0 arg1 harg1 arg2 harg2 arg3 harg3 arg7 x0 x1 x2 x3) (r57_rep c arg0 harg0 arg1 harg1 arg2 harg2 arg3 harg3 arg7 x0 x1 x2 x3)) (r58_rep c arg0 harg0 arg1 harg1 arg2 harg2 arg3 harg3 arg7 x0 x1 x2 x3)

theorem r62_rep : RepB 1792 (kernelRun0_A.sl.r_62 (F := Ideal) c arg0 harg0 arg1 harg1 arg2 harg2 arg3 harg3 arg7 x0 x1 x2 x3) (gseq (sK x0 x1 x2 x3) (vK x2 x3) (1792 + 256)) := by
  delta kernelRun0_A.sl.r_62
  refine fold_rep (v584_rep c arg0 harg0 arg1 harg1 arg2 harg2 arg3 harg3 arg7 x0 x1 x2 x3) ?_
  delta kernelRun0_A.sl.r_60 kernelRun0_A.sl.r_61
  exact cross7 (cat7 (cat6 (r54_rep c arg0 harg0 arg1 harg1 arg2 harg2 arg3 harg3 arg7 x0 x1 x2 x3) (r57_rep c arg0 harg0 arg1 harg1 arg2 harg2 arg3 harg3 arg7 x0 x1 x2 x3)) (r58_rep c arg0 harg0 arg1 harg1 arg2 harg2 arg3 harg3 arg7 x0 x1 x2 x3)) (v578_rep c arg0 harg0 arg1 harg1 arg2 harg2 arg3 harg3 arg7 x0 x1 x2 x3)

/-- The scores the kernel leaves. -/
theorem out6_val (r : Fin 2048) :
    out0_A_6 (F := Ideal) c arg0 harg0 arg1 harg1 arg2 harg2 arg3 harg3 arg4 harg4 arg5 harg5 arg6 harg6 arg7 harg7 x0 x1 x2 x3 x4 (ix2 0 r)
      = if gseq (sK x0 x1 x2 x3) (vK x2 x3) 2048 r.val = true then x4 (ix2 0 r) else Ideal.ofBits .f32 0xD01502F9#32 := by
  unfold out0_A_6
  rw [View.read_writes_junk_eq_canon]
  delta kernelRun0_A
  dsimp only
  rw [View.canon_unit_zero (by funext a; fin_cases a <;> rfl), rdS arg4 harg4]
  exact last_rep x4 (r59_rep c arg0 harg0 arg1 harg1 arg2 harg2 arg3 harg3 arg7 x0 x1 x2 x3) (r62_rep c arg0 harg0 arg1 harg1 arg2 harg2 arg3 harg3 arg7 x0 x1 x2 x3) r

/-- The boxes the kernel leaves. -/
theorem out5_val (r : Fin 2048) (q : Fin 4) :
    out0_A_5 (F := Ideal) c arg0 harg0 arg1 harg1 arg2 harg2 arg3 harg3 arg4 harg4 arg5 harg5 arg6 harg6 arg7 harg7 x0 x1 x2 x3 x4 (ix2 r q)
      = bx (rowOf x0 r) (rowOf x1 r) q := by
  have hcov := cover0_A_5 (F := Ideal) c arg0 harg0 arg1 harg1 arg2 harg2 arg3 harg3 arg4 harg4 arg5 harg5 arg6 harg6 arg7 harg7 x0 x1 x2 x3 x4 (ix2 r q)
  unfold out0_A_5
  rw [View.read_writes_junk_eq_canon]
  refine (View.canon_apply_of_pieces (Val := Elt Ideal) (e := .f32)
    (fun y : S2048x4.Idx => bx (rowOf x0 (y 0)) (rowOf x1 (y 0)) (y 1)) _ ?_ (ix2 r q) hcov)
  delta kernelRun0_A
  dsimp only
  refine List.forall_mem_cons.2 ⟨fun x => ?_, ?_⟩
  · obtain ⟨k, rfl⟩ : ∃ k : Fin 2048, x = ix2 k 0 := ⟨x 0, (eq_ix2 x).trans (congrArg (ix2 (x 0)) (Subsingleton.elim (α := Fin 1) _ _))⟩
    refine Eq.trans (r7_val c arg0 harg0 arg1 harg1 x0 x1 k) (box_at x0 x1 _ ?_ ?_) <;> simp
  refine List.forall_mem_cons.2 ⟨fun x => ?_, ?_⟩
  · obtain ⟨k, rfl⟩ : ∃ k : Fin 2048, x = ix2 k 0 := ⟨x 0, (eq_ix2 x).trans (congrArg (ix2 (x 0)) (Subsingleton.elim (α := Fin 1) _ _))⟩
    refine Eq.trans (r6_val c arg0 harg0 arg1 harg1 x0 x1 k) (box_at x0 x1 _ ?_ ?_) <;> simp
  refine List.forall_mem_cons.2 ⟨fun x => ?_, ?_⟩
  · obtain ⟨k, rfl⟩ : ∃ k : Fin 2048, x = ix2 k 0 := ⟨x 0, (eq_ix2 x).trans (congrArg (ix2 (x 0)) (Subsingleton.elim (α := Fin 1) _ _))⟩
    refine Eq.trans (r5_val c arg0 harg0 arg1 harg1 x0 x1 k) (box_at x0 x1 _ ?_ ?_) <;> simp
  refine List.forall_mem_cons.2 ⟨fun x => ?_, ?_⟩
  · obtain ⟨k, rfl⟩ : ∃ k : Fin 2048, x = ix2 k 0 := ⟨x 0, (eq_ix2 x).trans (congrArg (ix2 (x 0)) (Subsingleton.elim (α := Fin 1) _ _))⟩
    refine Eq.trans (r4_val c arg0 harg0 arg1 harg1 x0 x1 k) (box_at x0 x1 _ ?_ ?_) <;> simp
  exact fun p hp => absurd hp List.not_mem_nil

end Cert.Proof.Ker
-- ==== Proof.KTail.lean ====
/- The kernel's tables agree with the reference's ranks: rows below 2000 are the ranked anchors, the rest has no box. -/
module

public import proofs.«01_k».proof.Proof.KHost
public import proofs.«01_k».proof.Proof.KOut

@[expose] public section

set_option maxRecDepth 16384

noncomputable section

namespace Cert.Proof.Ker

open Cert.KernelIdeal Cert.KernelIdeal.Gen
open Idealize.ShloMosaic Idealize.ShloMosaic.TcCoe

variable (A D : Vec Ideal S20000x4 .f32) (L : Vec Ideal S20000 .f32)

theorem rowOf_lt (r : Fin 2048) (h : r.val < 2000) : rowOf (aK A L) r = fun q => A (ix2 (pos L ⟨r.val, h⟩) q) := by
  funext q
  exact (aK_at A L r q).trans (dif_pos h)

theorem rowOf_ge (r : Fin 2048) (h : ¬r.val < 2000) : rowOf (aK A L) r = fun _ => 0 := by
  funext q
  exact (aK_at A L r q).trans (dif_neg h)

theorem colOf_tK (x : Vec Ideal S2048x4 .f32) (r : Fin 2048) : colOf (tK x) r = rowOf x r := by
  funext q
  exact tK_at x r q

theorem bx_lt (r : Fin 2048) (h : r.val < 2000) : bx (rowOf (aK A L) r) (rowOf (aK D L) r) = box A D L ⟨r.val, h⟩ := by
  rw [rowOf_lt A L r h, rowOf_lt D L r h]
  rfl

theorem bx_ge (r : Fin 2048) (h : ¬r.val < 2000) : vd (bx (rowOf (aK A L) r) (rowOf (aK D L) r)) = false := by
  rw [rowOf_ge A L r h, rowOf_ge D L r h]
  exact vd_zero

theorem sK_lt (i j : Nat) (hi : i < 2000) (hj : j < 2000) :
    sK (aK A L) (aK D L) (tK (aK A L)) (tK (aK D L)) i j = sR A D L i j := by
  unfold sK sR
  rw [colOf_tK, colOf_tK, ofN_lt (show i < 2048 by omega), ofN_lt (show j < 2048 by omega), bx_lt A D L ⟨i, _⟩ hi,
    bx_lt A D L ⟨j, _⟩ hj, rk_lt hi, rk_lt hj]

theorem vK_lt (j : Nat) (hj : j < 2000) : vK (tK (aK A L)) (tK (aK D L)) j = vR A D L j := by
  unfold vK vR
  rw [colOf_tK, colOf_tK, ofN_lt (show j < 2048 by omega), bx_lt A D L ⟨j, _⟩ hj, rk_lt hj]

theorem vK_ge (j : Nat) (hj : j < 2048) (h : ¬j < 2000) : vK (tK (aK A L)) (tK (aK D L)) j = false := by
  unfold vK
  rw [colOf_tK, colOf_tK, ofN_lt hj]
  exact bx_ge A D L ⟨j, hj⟩ h

/-- The kernel's score at row `r`. -/
abbrev scK : (⟨1, ![2048]⟩ : Shape).Idx → EReal := fun y =>
  if gseq (sK (aK A L) (aK D L) (tK (aK A L)) (tK (aK D L))) (vK (tK (aK A L)) (tK (aK D L))) 2048 (y 0).val = true
  then lK L (ix2 0 (y 0)) else NEG

theorem scK_lt (r : Fin 2048) (h : r.val < 2000) : scK A D L (ix1 r) = score A D L (ix1 ⟨r.val, h⟩) := by
  show (if gseq _ _ 2048 r.val = true then lK L (ix2 0 r) else NEG)
    = if gseq (sR A D L) (vR A D L) 2000 r.val = true then L (ix1 (pos L ⟨r.val, h⟩)) else NEG
  rw [lK_at, dif_pos h, gseq_stable' _ _ (n := 2048) (n' := 2000) r.isLt.le h.le,
    gseq_congr (fun i j hi hj => sK_lt A D L i j hi hj) (fun j hj => vK_lt A D L j hj) 2000 le_rfl r.val h]

theorem scK_ge (r : Fin 2048) (h : ¬r.val < 2000) : scK A D L (ix1 r) = NEG := by
  refine if_neg fun hk => ?_
  have h2 := (gseq_iff _ _ _ _).1 hk
  exact Bool.false_ne_true ((vK_ge A D L r.val r.isLt h).symm.trans h2.1)

theorem score_ge (hL : ∀ k, NEG ≤ L k) (y : (⟨1, ![2000]⟩ : Shape).Idx) : NEG ≤ score A D L y := by
  unfold score
  split
  · exact hL _
  · exact le_rfl

theorem gtI_neg {a : EReal} (h : NEG ≤ a) : gtI NEG a = 0#1 := by
  have e : gtI NEG a = BitVec.ofBool (decide (a < NEG)) := rfl
  rw [e, decide_eq_false (not_lt.mpr h)]
  rfl

/-- The row of the kernel's tables that the result's row `r` comes from. -/
def selK (r : Fin 1000) : Fin 2048 := topPos gtI (scK A D L) (Fin.castLE (by norm_num) r)

theorem topPos_scK (hL : ∀ k, NEG ≤ L k) (r : Fin 1000) : (selK A D L r).val = (sel A D L r).val := by
  unfold selK sel
  refine topPos_pad (n := 2000) (p := 48) (N := 2048) rfl gtI (score A D L) (scK A D L) (fun k hk => scK_lt A D L k hk)
    (fun k a hk => ?_) (Fin.castLE (by norm_num) r)
  rw [scK_ge A D L k hk]
  apply gtI_neg
  by_cases ha : a.val < 2000
  · rw [scK_lt A D L a ha]
    exact score_ge A D L hL _
  · exact (scK_ge A D L a ha).ge

end Cert.Proof.Ker
-- ==== Proof.KRun.lean ====
/- The kernel's result, whatever the launch memory: after its region and the host lines that follow. -/
module

public import proofs.«01_k».proof.Proof.KTail
public import Idealize.ShloMosaic.Lib.Pipeline.ValueKit

@[expose] public section

set_option maxRecDepth 16384

noncomputable section

namespace Cert.Proof.Ker

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Every window's block index at the one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem iblk0 : iblk m c 0 t0_0 = V m c main_v14 := by blk_ext! [iblk, idx t0_0]
theorem iblk1 : iblk m c 1 t0_0 = V m c main_v15 := by blk_ext! [iblk, idx t0_0]
theorem iblk2 : iblk m c 2 t0_0 = V m c main_v19 := by blk_ext! [iblk, idx t0_0]
theorem iblk3 : iblk m c 3 t0_0 = V m c main_v21 := by blk_ext! [iblk, idx t0_0]
theorem iblk4 : iblk m c 4 t0_0 = V m c main_v17 := by blk_ext! [iblk, idx t0_0]

/-- The anchors. -/
abbrev mA : Vec Ideal S20000x4 .f32 := m ((c : Thread nD τ).loc main_arg0)
/-- The logits. -/
abbrev mL : Vec Ideal S20000 .f32 := m ((c : Thread nD τ).loc main_arg1)
/-- The deltas. -/
abbrev mD : Vec Ideal S20000x4 .f32 := m ((c : Thread nD τ).loc main_arg2)

/-- The boxes the region leaves. -/
abbrev boxesK (A D : Vec Ideal S20000x4 .f32) (L : Vec Ideal S20000 .f32) : Vec Ideal S2048x4 .f32 :=
  fun y => bx (rowOf (aK A L) (y 0)) (rowOf (aK D L) (y 0)) (y 1)

/-- The scores the region leaves. -/
abbrev scoresK (A D : Vec Ideal S20000x4 .f32) (L : Vec Ideal S20000 .f32) : Vec Ideal S1x2048 .f32 :=
  fun y => scK A D L (ix1 (y 1))

theorem arr5 : (dats m 0 c).arrAt 5 cfg0.N = boxesK (mA m c) (mD m c) (mL m c) := by
  refine (dats m 0 c).arrAt_eq_of_after_last 5 t0_0 (by decide +kernel) _ fun j => ?_
  blk_simp
  rw [after0_5]
  unfold outsAt0
  rw [iblk0, iblk1, iblk2, iblk3, iblk4, v14_val, v15_val, v19_val, v21_val, v17_val]
  dsimp only
  rw [show (j : S2048x4.Idx) = ix2 (j 0) (j 1) from eq_ix2 j]
  exact out5_val ..

theorem arr6 : (dats m 0 c).arrAt 6 cfg0.N = scoresK (mA m c) (mD m c) (mL m c) := by
  refine (dats m 0 c).arrAt_eq_of_after_last 6 t0_0 (by decide +kernel) _ fun j => ?_
  blk_simp
  rw [after0_6]
  unfold outsAt0
  rw [iblk0, iblk1, iblk2, iblk3, iblk4, v14_val, v15_val, v19_val, v21_val, v17_val]
  dsimp only
  obtain ⟨k, rfl⟩ : ∃ k : Fin 2048, (j : S1x2048.Idx) = ix2 0 k :=
    ⟨j 1, (eq_ix2 (j : S1x2048.Idx)).trans (congrArg (fun z => ix2 z (j 1)) (Subsingleton.elim (α := Fin 1) _ _))⟩
  exact out6_val ..

/-- The last sort's positions. -/
abbrev ixT (S : Vec Ideal S1x2048 .f32) : IVec S1000 32 :=
  (Host.topK S1000 0 (FloatOps.cmpfTotal (F := Ideal) (φ := .f32) .gt) (shapeCast S2048 S shapeCasts_S1x2048_S2048)
    sliceFits_S2048_S1000).2

/-- The positions made nonnegative, as the start indices of a gather. -/
abbrev wrapT (S : Vec Ideal S1x2048 .f32) : IVec S1000x1 32 :=
  broadcastInDim S1000x1 ![0] bcast_S1000_S1000x1_0
    (select (cmpi .slt (ixT S) (broadcastInDim S1000 ![] bcast_S_S1000 (constantI S_ 32 0#32)))
      (addi (ixT S) (broadcastInDim S1000 ![] bcast_S_S1000 (constantI S_ 32 2048#32))) (ixT S))

/-- The result from the region's boxes and scores. -/
abbrev outT (B : Vec Ideal S2048x4 .f32) (S : Vec Ideal S1x2048 .f32) : Vec Ideal S1000x5 .f32 :=
  concatenate S1000x5 1 [⟨S1000x4, Host.gather gather_S2048x4_S1000x1_S1000x4_1_0_n_n_0_1_14 B (wrapT S)⟩,
    ⟨S1000x1, broadcastInDim S1000x1 ![0] bcast_S1000_S1000x1_0
      (Host.topK S1000 0 (FloatOps.cmpfTotal (F := Ideal) (φ := .f32) .gt) (shapeCast S2048 S shapeCasts_S1x2048_S2048)
        sliceFits_S2048_S1000).1⟩] concatenates_S1000x4_S1000x1_S1000x5_d1

theorem cat_congr {a a' : Vec Ideal S1000x4 .f32} {b b' : Vec Ideal S1000x1 .f32} (h : a = a') (h' : b = b') :
    concatenate S1000x5 1 [⟨S1000x4, a⟩, ⟨S1000x1, b⟩] concatenates_S1000x4_S1000x1_S1000x5_d1
      = concatenate S1000x5 1 [⟨S1000x4, a'⟩, ⟨S1000x1, b'⟩] concatenates_S1000x4_S1000x1_S1000x5_d1 := by
  rw [h, h']

theorem after_out (W : Valuation τ sig (Elt Ideal)) :
    StableHlo.after hostOps1 W (Proc.devRef .tc main_v32)
      = outT (W (Proc.devRef .tc main_v22_0)) (W (Proc.devRef .tc main_v22_1)) := by
  simp only [hostOps1]
  after_results_simp
  refine cat_congr ?_ ?_
  · after_results_simp
    rfl
  · after_results_simp
    rfl

theorem tail_out : Pipeline.afterTail₀ cfgs (dats m) 0 (V0 m) [hostOps1] c main_v32
    = outT (boxesK (mA m c) (mD m c) (mL m c)) (scoresK (mA m c) (mD m c) (mL m c)) := by
  unfold Pipeline.afterTail₀
  rw [show List.flatten [hostOps1] = (hostOps1 : List (HloOp τ sig (Elt Ideal))) from rfl, after_out]
  have h5 := Pipeline.withArrays_arr spec0 (by decide) c (V0 m c) (fun w => (dats m 0 c).arrAt w cfg0.N) 5
  have h6 := Pipeline.withArrays_arr spec0 (by decide) c (V0 m c) (fun w => (dats m 0 c).arrAt w cfg0.N) 6
  refine congrArg₂ outT (h5.trans (arr5 m c)) (h6.trans (arr6 m c))

variable (A D : Vec Ideal S20000x4 .f32) (L : Vec Ideal S20000 .f32)

theorem cast_scores : shapeCast S2048 (scoresK A D L) shapeCasts_S1x2048_S2048 = scK A D L := by
  funext y
  pointwise
  exact congrArg (scK A D L) (eq_ix1 y).symm

theorem ixT_at (r : Fin 1000) : ixT (scoresK A D L) (ix1 r) = BitVec.ofNat 32 (selK A D L r).val := by
  unfold ixT selK
  rw [cast_scores, topK_at_snd]

theorem wrapT_at (r : Fin 1000) : wrapT (scoresK A D L) (ix2 r 0) = BitVec.ofNat 32 (selK A D L r).val := by
  pointwise
  rw [ixT_at, WordCmp.cmpi_slt_ofNat (by omega) (by norm_num)]
  rfl

theorem selK_lt (hL : ∀ k, NEG ≤ L k) (r : Fin 1000) : (selK A D L r).val < 2000 := by
  rw [topPos_scK A D L hL r]
  exact (sel A D L r).isLt

theorem boxesK_at (r : Fin 2048) (q : Fin 4) (h : r.val < 2000) : boxesK A D L (ix2 r q) = box A D L ⟨r.val, h⟩ q :=
  congrFun (bx_lt A D L r h) q

theorem selK_fin (hL : ∀ k, NEG ≤ L k) (r : Fin 1000) :
    (⟨(selK A D L r).val, selK_lt A D L hL r⟩ : Fin 2000) = sel A D L r := by
  apply Fin.ext
  dsimp only
  rw [topPos_scK A D L hL r]

theorem gathered₀ (B : Vec Ideal S2048x4 .f32) (S : Vec Ideal S1x2048 .f32) (r : Fin 1000) (q : Fin 4) (k : Fin 2048)
    (h : wrapT S (ix2 r 0) = BitVec.ofNat 32 k.val) :
    Host.gather gather_S2048x4_S1000x1_S1000x4_1_0_n_n_0_1_14 B (wrapT S) (ix2 r q) = B (ix2 k q) :=
  Routing.gather_row gather_S2048x4_S1000x1_S1000x4_1_0_n_n_0_1_14 rfl rfl rfl rfl rfl B (wrapT S) r q k h (by norm_num)

theorem gathered (hL : ∀ k, NEG ≤ L k) (r : Fin 1000) (q : Fin 4) :
    Host.gather gather_S2048x4_S1000x1_S1000x4_1_0_n_n_0_1_14 (boxesK A D L) (wrapT (scoresK A D L)) (ix2 r q)
      = box A D L (sel A D L r) q := by
  rw [gathered₀ (boxesK A D L) (scoresK A D L) r q (selK A D L r) (wrapT_at A D L r),
    boxesK_at A D L (selK A D L r) q (selK_lt A D L hL r), selK_fin A D L hL]

theorem sorted (hL : ∀ k, NEG ≤ L k) (r : Fin 1000) :
    (Host.topK S1000 0 (FloatOps.cmpfTotal (F := Ideal) (φ := .f32) .gt)
      (shapeCast S2048 (scoresK A D L) shapeCasts_S1x2048_S2048) sliceFits_S2048_S1000).1 (ix1 r)
      = score A D L (ix1 (sel A D L r)) := by
  have h := scK_lt A D L (selK A D L r) (selK_lt A D L hL r)
  rw [selK_fin A D L hL] at h
  unfold selK at h
  rw [cast_scores, topK_at_fst (by norm_num), h]

theorem res_lt (r : Fin 1000) (q : Fin 5) (h : q.val < 4) : res A D L (ix2 r q) = box A D L (sel A D L r) ⟨q.val, h⟩ :=
  dif_pos h

theorem res_ge (r : Fin 1000) (q : Fin 5) (h : ¬q.val < 4) : res A D L (ix2 r q) = score A D L (ix1 (sel A D L r)) :=
  dif_neg h

theorem out_at (hL : ∀ k, NEG ≤ L k) (r : Fin 1000) (q : Fin 5) :
    outT (boxesK A D L) (scoresK A D L) (ix2 r q) = res A D L (ix2 r q) := by
  pointwise
  by_cases h : q.val < 4
  · rw [dif_pos h, gathered A D L hL, res_lt A D L r q h]
  · rw [dif_neg h, sorted A D L hL, res_ge A D L r q h]

theorem out_eq (hL : ∀ k, NEG ≤ L k) : outT (boxesK A D L) (scoresK A D L) = res A D L := by
  funext y
  have h := out_at A D L hL (y 0) (y 1)
  rwa [← eq_ix2 y] at h

/-- Every run of the kernel ends with the result, the arguments as launched. -/
theorem run_res (g : Dev nD → PrngReg) (hL : ∀ c k, NEG ≤ mL m c k) :
    θ_run defs (onTc main) (s₀ m g) (fun r => ∀ c : Dev nD,
      r.2.mem ((c : Thread nD τ).loc main_v32) = res (mA m c) (mD m c) (mL m c)) := by
  refine (θ_run defs _ _).mono (fun r h c => ?_) (run_main m g)
  refine ((h c).2 main_v32 (Pipeline.mem_restRefs_of main_v32 (by decide) (by decide))).trans ?_
  exact (tail_out m c).trans (out_eq _ _ _ (hL c))

end Cert.Proof.Ker
-- ==== Proof.RefOps.lean ====
/- The reference as lists of host operations: the stretches before its counted loop, the loop's body and
   condition, the stretches after; the program is the chain of these. -/
module

public import proofs.«01_k».proof.Proof.Gen.ReferenceIdeal
public import Idealize.ShloMosaic.Lib.StableHlo.RunLoop

@[expose] public section

set_option maxRecDepth 16384

noncomputable section

namespace Cert.Proof.Ref

open Cert.ReferenceIdeal Cert.ReferenceIdeal.Gen
open Idealize.ShloMosaic Idealize.ShloMosaic.TcCoe Idealize.SL.Sem

variable {F : FTy → Type} [FloatOps F]

/-- Stretch 0 before the loop. -/
abbrev pre0 : List (HloOp τ sig (Elt F)) :=
  [ StableHlo.unary main_arg0 main_v0 ((extractStridedSlice S20000x1 ![0, 2] · slices_S20000x4_S20000x1_0_2) : (⟨S20000x4, .f32⟩ : BufTy).Contents (Elt F) → (⟨S20000x1, .f32⟩ : BufTy).Contents (Elt F)),
    StableHlo.reshape main_v0 main_v1 (rfl : (.f32 : EltTy) = .f32) shapeCasts_S20000x1_S20000,
    StableHlo.unary main_arg0 main_v2 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v2 main_v3 (rfl : (.f32 : EltTy) = .f32) shapeCasts_S20000x1_S20000,
    StableHlo.binary main_v1 main_v3 main_v4 (subf : (⟨S20000, .f32⟩ : BufTy).Contents (Elt F) → (⟨S20000, .f32⟩ : BufTy).Contents (Elt F) → (⟨S20000, .f32⟩ : BufTy).Contents (Elt F)),
    StableHlo.unary main_arg0 main_v5 ((extractStridedSlice S20000x1 ![0, 3] · slices_S20000x4_S20000x1_0_3) : (⟨S20000x4, .f32⟩ : BufTy).Contents (Elt F) → (⟨S20000x1, .f32⟩ : BufTy).Contents (Elt F)),
    StableHlo.reshape main_v5 main_v6 (rfl : (.f32 : EltTy) = .f32) shapeCasts_S20000x1_S20000,
    StableHlo.unary main_arg0 main_v7 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v7 main_v8 (rfl : (.f32 : EltTy) = .f32) shapeCasts_S20000x1_S20000,
    StableHlo.binary main_v6 main_v8 main_v9 (subf : (⟨S20000, .f32⟩ : BufTy).Contents (Elt F) → (⟨S20000, .f32⟩ : BufTy).Contents (Elt F) → (⟨S20000, .f32⟩ : BufTy).Contents (Elt F)),
    StableHlo.unary main_arg0 main_v10 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v10 main_v11 (rfl : (.f32 : EltTy) = .f32) shapeCasts_S20000x1_S20000,
    StableHlo.nullary main_cst (constant S_ .f32 0x3F000000#32),
    StableHlo.unary main_cst main_v12 (broadcastInDim S20000 ![] bcast_S_S20000 : (⟨S_, .f32⟩ : BufTy).Contents (Elt F) → (⟨S20000, .f32⟩ : BufTy).Contents (Elt F)),
    StableHlo.binary main_v12 main_v4 main_v13 (mulf : (⟨S20000, .f32⟩ : BufTy).Contents (Elt F) → (⟨S20000, .f32⟩ : BufTy).Contents (Elt F) → (⟨S20000, .f32⟩ : BufTy).Contents (Elt F)),
    StableHlo.binary main_v11 main_v13 main_v14 (addf : (⟨S20000, .f32⟩ : BufTy).Contents (Elt F) → (⟨S20000, .f32⟩ : BufTy).Contents (Elt F) → (⟨S20000, .f32⟩ : BufTy).Contents (Elt F)),
    StableHlo.unary main_arg0 main_v15 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v15 main_v16 (rfl : (.f32 : EltTy) = .f32) shapeCasts_S20000x1_S20000,
    StableHlo.nullary main_cst_0 (constant S_ .f32 0x3F000000#32),
    StableHlo.unary main_cst_0 main_v17 (broadcastInDim S20000 ![] bcast_S_S20000 : (⟨S_, .f32⟩ : BufTy).Contents (Elt F) → (⟨S20000, .f32⟩ : BufTy).Contents (Elt F)),
    StableHlo.binary main_v17 main_v9 main_v18 (mulf : (⟨S20000, .f32⟩ : BufTy).Contents (Elt F) → (⟨S20000, .f32⟩ : BufTy).Contents (Elt F) → (⟨S20000, .f32⟩ : BufTy).Contents (Elt F)),
    StableHlo.binary main_v16 main_v18 main_v19 (addf : (⟨S20000, .f32⟩ : BufTy).Contents (Elt F) → (⟨S20000, .f32⟩ : BufTy).Contents (Elt F) → (⟨S20000, .f32⟩ : BufTy).Contents (Elt F)),
    StableHlo.unary main_arg2 main_v20 ((extractStridedSlice S20000x1 ![0, 0] · slices_S20000x4_S20000x1_0_0) : (⟨S20000x4, .f32⟩ : BufTy).Contents (Elt F) → (⟨S20000x1, .f32⟩ : BufTy).Contents (Elt F)),
    StableHlo.reshape main_v20 main_v21 (rfl : (.f32 : EltTy) = .f32) shapeCasts_S20000x1_S20000,
    StableHlo.unary main_arg2 main_v22 ((extractStridedSlice S20000x1 ![0, 1] · slices_S20000x4_S20000x1_0_1) : (⟨S20000x4, .f32⟩ : BufTy).Contents (Elt F) → (⟨S20000x1, .f32⟩ : BufTy).Contents (Elt F)),
    StableHlo.reshape main_v22 main_v23 (rfl : (.f32 : EltTy) = .f32) shapeCasts_S20000x1_S20000,
    StableHlo.unary main_arg2 main_v24 ((extractStridedSlice S20000x1 ![0, 2] · slices_S20000x4_S20000x1_0_2) : (⟨S20000x4, .f32⟩ : BufTy).Contents (Elt F) → (⟨S20000x1, .f32⟩ : BufTy).Contents (Elt F)),
    StableHlo.reshape main_v24 main_v25 (rfl : (.f32 : EltTy) = .f32) shapeCasts_S20000x1_S20000,
    StableHlo.unary main_arg2 main_v26 ((extractStridedSlice S20000x1 ![0, 3] · slices_S20000x4_S20000x1_0_3) : (⟨S20000x4, .f32⟩ : BufTy).Contents (Elt F) → (⟨S20000x1, .f32⟩ : BufTy).Contents (Elt F)),
    StableHlo.reshape main_v26 main_v27 (rfl : (.f32 : EltTy) = .f32) shapeCasts_S20000x1_S20000,
    StableHlo.nullary main_cst_1 (constant S_ .f32 0x40845349#32),
    StableHlo.unary main_cst_1 main_v28 (broadcastInDim S20000 ![] bcast_S_S20000 : (⟨S_, .f32⟩ : BufTy).Contents (Elt F) → (⟨S20000, .f32⟩ : BufTy).Contents (Elt F)),
    StableHlo.binary main_v25 main_v28 main_v29 (minimumf : (⟨S20000, .f32⟩ : BufTy).Contents (Elt F) → (⟨S20000, .f32⟩ : BufTy).Contents (Elt F) → (⟨S20000, .f32⟩ : BufTy).Contents (Elt F)),
    StableHlo.nullary main_cst_2 (constant S_ .f32 0x40845349#32),
    StableHlo.unary main_cst_2 main_v30 (broadcastInDim S20000 ![] bcast_S_S20000 : (⟨S_, .f32⟩ : BufTy).Contents (Elt F) → (⟨S20000, .f32⟩ : BufTy).Contents (Elt F)),
    StableHlo.binary main_v27 main_v30 main_v31 (minimumf : (⟨S20000, .f32⟩ : BufTy).Contents (Elt F) → (⟨S20000, .f32⟩ : BufTy).Contents (Elt F) → (⟨S20000, .f32⟩ : BufTy).Contents (Elt F)),
    StableHlo.binary main_v21 main_v4 main_v32 (mulf : (⟨S20000, .f32⟩ : BufTy).Contents (Elt F) → (⟨S20000, .f32⟩ : BufTy).Contents (Elt F) → (⟨S20000, .f32⟩ : BufTy).Contents (Elt F)),
    StableHlo.binary main_v32 main_v14 main_v33 (addf : (⟨S20000, .f32⟩ : BufTy).Contents (Elt F) → (⟨S20000, .f32⟩ : BufTy).Contents (Elt F) → (⟨S20000, .f32⟩ : BufTy).Contents (Elt F)),
    StableHlo.binary main_v23 main_v9 main_v34 (mulf : (⟨S20000, .f32⟩ : BufTy).Contents (Elt F) → (⟨S20000, .f32⟩ : BufTy).Contents (Elt F) → (⟨S20000, .f32⟩ : BufTy).Contents (Elt F)),
    StableHlo.binary main_v34 main_v19 main_v35 (addf : (⟨S20000, .f32⟩ : BufTy).Contents (Elt F) → (⟨S20000, .f32⟩ : BufTy).Contents (Elt F) → (⟨S20000, .f32⟩ : BufTy).Contents (Elt F)),
    StableHlo.unary main_v29 main_v36 (Host.exp : (⟨S20000, .f32⟩ : BufTy).Contents (Elt F) → (⟨S20000, .f32⟩ : BufTy).Contents (Elt F)),
    StableHlo.binary main_v36 main_v4 main_v37 (mulf : (⟨S20000, .f32⟩ : BufTy).Contents (Elt F) → (⟨S20000, .f32⟩ : BufTy).Contents (Elt F) → (⟨S20000, .f32⟩ : BufTy).Contents (Elt F)),
    StableHlo.unary main_v31 main_v38 (Host.exp : (⟨S20000, .f32⟩ : BufTy).Contents (Elt F) → (⟨S20000, .f32⟩ : BufTy).Contents (Elt F)),
    StableHlo.binary main_v38 main_v9 main_v39 (mulf : (⟨S20000, .f32⟩ : BufTy).Contents (Elt F) → (⟨S20000, .f32⟩ : BufTy).Contents (Elt F) → (⟨S20000, .f32⟩ : BufTy).Contents (Elt F)),
    StableHlo.nullary main_cst_3 (constant S_ .f32 0x3F000000#32),
    StableHlo.unary main_cst_3 main_v40 (broadcastInDim S20000 ![] bcast_S_S20000 : (⟨S_, .f32⟩ : BufTy).Contents (Elt F) → (⟨S20000, .f32⟩ : BufTy).Contents (Elt F)),
    StableHlo.binary main_v40 main_v37 main_v41 (mulf : (⟨S20000, .f32⟩ : BufTy).Contents (Elt F) → (⟨S20000, .f32⟩ : BufTy).Contents (Elt F) → (⟨S20000, .f32⟩ : BufTy).Contents (Elt F)),
    StableHlo.binary main_v33 main_v41 main_v42 (subf : (⟨S20000, .f32⟩ : BufTy).Contents (Elt F) → (⟨S20000, .f32⟩ : BufTy).Contents (Elt F) → (⟨S20000, .f32⟩ : BufTy).Contents (Elt F)),
    StableHlo.nullary main_cst_4 (constant S_ .f32 0x3F000000#32),
    StableHlo.unary main_cst_4 main_v43 (broadcastInDim S20000 ![] bcast_S_S20000 : (⟨S_, .f32⟩ : BufTy).Contents (Elt F) → (⟨S20000, .f32⟩ : BufTy).Contents (Elt F)),
    StableHlo.binary main_v43 main_v39 main_v44 (mulf : (⟨S20000, .f32⟩ : BufTy).Contents (Elt F) → (⟨S20000, .f32⟩ : BufTy).Contents (Elt F) → (⟨S20000, .f32⟩ : BufTy).Contents (Elt F)),
    StableHlo.binary main_v35 main_v44 main_v45 (subf : (⟨S20000, .f32⟩ : BufTy).Contents (Elt F) → (⟨S20000, .f32⟩ : BufTy).Contents (Elt F) → (⟨S20000, .f32⟩ : BufTy).Contents (Elt F)),
    StableHlo.nullary main_cst_5 (constant S_ .f32 0x3F000000#32),
    StableHlo.unary main_cst_5 main_v46 (broadcastInDim S20000 ![] bcast_S_S20000 : (⟨S_, .f32⟩ : BufTy).Contents (Elt F) → (⟨S20000, .f32⟩ : BufTy).Contents (Elt F)),
    StableHlo.binary main_v46 main_v37 main_v47 (mulf : (⟨S20000, .f32⟩ : BufTy).Contents (Elt F) → (⟨S20000, .f32⟩ : BufTy).Contents (Elt F) → (⟨S20000, .f32⟩ : BufTy).Contents (Elt F)),
    StableHlo.binary main_v33 main_v47 main_v48 (addf : (⟨S20000, .f32⟩ : BufTy).Contents (Elt F) → (⟨S20000, .f32⟩ : BufTy).Contents (Elt F) → (⟨S20000, .f32⟩ : BufTy).Contents (Elt F)),
    StableHlo.nullary main_cst_6 (constant S_ .f32 0x3F000000#32),
    StableHlo.unary main_cst_6 main_v49 (broadcastInDim S20000 ![] bcast_S_S20000 : (⟨S_, .f32⟩ : BufTy).Contents (Elt F) → (⟨S20000, .f32⟩ : BufTy).Contents (Elt F)),
    StableHlo.binary main_v49 main_v39 main_v50 (mulf : (⟨S20000, .f32⟩ : BufTy).Contents (Elt F) → (⟨S20000, .f32⟩ : BufTy).Contents (Elt F) → (⟨S20000, .f32⟩ : BufTy).Contents (Elt F)),
    StableHlo.binary main_v35 main_v50 main_v51 (addf : (⟨S20000, .f32⟩ : BufTy).Contents (Elt F) → (⟨S20000, .f32⟩ : BufTy).Contents (Elt F) → (⟨S20000, .f32⟩ : BufTy).Contents (Elt F)) ]
/-- Each names core buffers only. -/
theorem pre0_sub : (pre0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
/-- Stretch 1 before the loop. -/
abbrev pre1 : List (HloOp τ sig (Elt F)) :=
  [ StableHlo.unary main_v42 main_v52 (broadcastInDim S20000x1 ![0] bcast_S20000_S20000x1_0 : (⟨S20000, .f32⟩ : BufTy).Contents (Elt F) → (⟨S20000x1, .f32⟩ : BufTy).Contents (Elt F)),
    StableHlo.unary main_v45 main_v53 (broadcastInDim S20000x1 ![0] bcast_S20000_S20000x1_0 : (⟨S20000, .f32⟩ : BufTy).Contents (Elt F) → (⟨S20000x1, .f32⟩ : BufTy).Contents (Elt F)),
    StableHlo.unary main_v48 main_v54 (broadcastInDim S20000x1 ![0] bcast_S20000_S20000x1_0 : (⟨S20000, .f32⟩ : BufTy).Contents (Elt F) → (⟨S20000x1, .f32⟩ : BufTy).Contents (Elt F)),
    StableHlo.unary main_v51 main_v55 (broadcastInDim S20000x1 ![0] bcast_S20000_S20000x1_0 : (⟨S20000, .f32⟩ : BufTy).Contents (Elt F) → (⟨S20000x1, .f32⟩ : BufTy).Contents (Elt F)),
    StableHlo.nary ![main_v52, main_v53, main_v54, main_v55] main_v56 (fun u => (concatenate S20000x4 1 [⟨S20000x1, (u 0 : (⟨S20000x1, .f32⟩ : BufTy).Contents (Elt F))⟩, ⟨S20000x1, (u 1 : (⟨S20000x1, .f32⟩ : BufTy).Contents (Elt F))⟩, ⟨S20000x1, (u 2 : (⟨S20000x1, .f32⟩ : BufTy).Contents (Elt F))⟩, ⟨S20000x1, (u 3 : (⟨S20000x1, .f32⟩ : BufTy).Contents (Elt F))⟩] concatenates_S20000x1_S20000x1_S20000x1_S20000x1_S20000x4_d1 : (⟨S20000x4, .f32⟩ : BufTy).Contents (Elt F))),
    StableHlo.unary main_arg1 main_values ((fun x => (Host.topK S2000 0 (FloatOps.cmpfTotal .gt) x sliceFits_S20000_S2000).1) : (⟨S20000, .f32⟩ : BufTy).Contents (Elt F) → (⟨S2000, .f32⟩ : BufTy).Contents (Elt F)),
    StableHlo.unary main_arg1 main_indices ((fun x => (Host.topK S2000 0 (FloatOps.cmpfTotal .gt) x sliceFits_S20000_S2000).2) : (⟨S20000, .f32⟩ : BufTy).Contents (Elt F) → (⟨S2000, .i32⟩ : BufTy).Contents (Elt F)),
    StableHlo.nullary main_c (constantI S_ 32 0#32),
    StableHlo.unary main_c main_v57 (broadcastInDim S2000 ![] bcast_S_S2000 : (⟨S_, .i32⟩ : BufTy).Contents (Elt F) → (⟨S2000, .i32⟩ : BufTy).Contents (Elt F)),
    StableHlo.binary main_indices main_v57 main_v58 (cmpi .slt : (⟨S2000, .i32⟩ : BufTy).Contents (Elt F) → (⟨S2000, .i32⟩ : BufTy).Contents (Elt F) → (⟨S2000, .i1⟩ : BufTy).Contents (Elt F)),
    StableHlo.nullary main_c_7 (constantI S_ 32 20000#32),
    StableHlo.unary main_c_7 main_v59 (broadcastInDim S2000 ![] bcast_S_S2000 : (⟨S_, .i32⟩ : BufTy).Contents (Elt F) → (⟨S2000, .i32⟩ : BufTy).Contents (Elt F)),
    StableHlo.binary main_indices main_v59 main_v60 (addi : (⟨S2000, .i32⟩ : BufTy).Contents (Elt F) → (⟨S2000, .i32⟩ : BufTy).Contents (Elt F) → (⟨S2000, .i32⟩ : BufTy).Contents (Elt F)),
    StableHlo.ternary main_v58 main_v60 main_indices main_v61 (select : (⟨S2000, .i1⟩ : BufTy).Contents (Elt F) → (⟨S2000, .i32⟩ : BufTy).Contents (Elt F) → (⟨S2000, .i32⟩ : BufTy).Contents (Elt F) → (⟨S2000, .i32⟩ : BufTy).Contents (Elt F)),
    StableHlo.unary main_v61 main_v62 (broadcastInDim S2000x1 ![0] bcast_S2000_S2000x1_0 : (⟨S2000, .i32⟩ : BufTy).Contents (Elt F) → (⟨S2000x1, .i32⟩ : BufTy).Contents (Elt F)),
    StableHlo.binary main_v56 main_v62 main_v63 ((fun x i => Host.gather gather_S20000x4_S2000x1_S2000x4_1_0_n_n_0_1_14 x i) : (⟨S20000x4, .f32⟩ : BufTy).Contents (Elt F) → (⟨S2000x1, .i32⟩ : BufTy).Contents (Elt F) → (⟨S2000x4, .f32⟩ : BufTy).Contents (Elt F)),
    StableHlo.unary main_v63 main_v64 ((extractStridedSlice S2000x1 ![0, 0] · slices_S2000x4_S2000x1_0_0) : (⟨S2000x4, .f32⟩ : BufTy).Contents (Elt F) → (⟨S2000x1, .f32⟩ : BufTy).Contents (Elt F)),
    StableHlo.reshape main_v64 main_v65 (rfl : (.f32 : EltTy) = .f32) shapeCasts_S2000x1_S2000,
    StableHlo.nullary main_cst_8 (constant S_ .f32 0x00000000#32),
    StableHlo.nullary main_cst_9 (constant S_ .f32 0x44800000#32) ]
/-- Each names core buffers only. -/
theorem pre1_sub : (pre1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.nullary_bufs_sub ..⟩
/-- Stretch 2 before the loop. -/
abbrev pre2 : List (HloOp τ sig (Elt F)) :=
  [ StableHlo.TRef.unary (.of main_cst_8 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S2000, .f32⟩) (broadcastInDim S2000 ![] bcast_S_S2000),
    StableHlo.TRef.binary (.of main_call0_v1 : StableHlo.TRef sig ⟨S2000, .f32⟩) (.of main_v65 : StableHlo.TRef sig ⟨S2000, .f32⟩) (.of main_call0_v2 : StableHlo.TRef sig ⟨S2000, .f32⟩) maximumf,
    StableHlo.TRef.unary (.of main_cst_9 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S2000, .f32⟩) (broadcastInDim S2000 ![] bcast_S_S2000),
    StableHlo.TRef.binary (.of main_call0_v4 : StableHlo.TRef sig ⟨S2000, .f32⟩) (.of main_call0_v2 : StableHlo.TRef sig ⟨S2000, .f32⟩) (.of main_v66 : StableHlo.TRef sig ⟨S2000, .f32⟩) minimumf ]
/-- Each names core buffers only. -/
theorem pre2_sub : (pre2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Stretch 3 before the loop. -/
abbrev pre3 : List (HloOp τ sig (Elt F)) :=
  [ StableHlo.unary main_v63 main_v67 ((extractStridedSlice S2000x1 ![0, 1] · slices_S2000x4_S2000x1_0_1) : (⟨S2000x4, .f32⟩ : BufTy).Contents (Elt F) → (⟨S2000x1, .f32⟩ : BufTy).Contents (Elt F)),
    StableHlo.reshape main_v67 main_v68 (rfl : (.f32 : EltTy) = .f32) shapeCasts_S2000x1_S2000,
    StableHlo.nullary main_cst_10 (constant S_ .f32 0x00000000#32),
    StableHlo.nullary main_cst_11 (constant S_ .f32 0x44800000#32) ]
/-- Each names core buffers only. -/
theorem pre3_sub : (pre3 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
/-- Stretch 4 before the loop. -/
abbrev pre4 : List (HloOp τ sig (Elt F)) :=
  [ StableHlo.TRef.unary (.of main_cst_10 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S2000, .f32⟩) (broadcastInDim S2000 ![] bcast_S_S2000),
    StableHlo.TRef.binary (.of main_call1_v1 : StableHlo.TRef sig ⟨S2000, .f32⟩) (.of main_v68 : StableHlo.TRef sig ⟨S2000, .f32⟩) (.of main_call1_v2 : StableHlo.TRef sig ⟨S2000, .f32⟩) maximumf,
    StableHlo.TRef.unary (.of main_cst_11 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S2000, .f32⟩) (broadcastInDim S2000 ![] bcast_S_S2000),
    StableHlo.TRef.binary (.of main_call1_v4 : StableHlo.TRef sig ⟨S2000, .f32⟩) (.of main_call1_v2 : StableHlo.TRef sig ⟨S2000, .f32⟩) (.of main_v69 : StableHlo.TRef sig ⟨S2000, .f32⟩) minimumf ]
/-- Each names core buffers only. -/
theorem pre4_sub : (pre4 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Stretch 5 before the loop. -/
abbrev pre5 : List (HloOp τ sig (Elt F)) :=
  [ StableHlo.unary main_v63 main_v70 ((extractStridedSlice S2000x1 ![0, 2] · slices_S2000x4_S2000x1_0_2) : (⟨S2000x4, .f32⟩ : BufTy).Contents (Elt F) → (⟨S2000x1, .f32⟩ : BufTy).Contents (Elt F)),
    StableHlo.reshape main_v70 main_v71 (rfl : (.f32 : EltTy) = .f32) shapeCasts_S2000x1_S2000,
    StableHlo.nullary main_cst_12 (constant S_ .f32 0x00000000#32),
    StableHlo.nullary main_cst_13 (constant S_ .f32 0x44800000#32) ]
/-- Each names core buffers only. -/
theorem pre5_sub : (pre5 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
/-- Stretch 6 before the loop. -/
abbrev pre6 : List (HloOp τ sig (Elt F)) :=
  [ StableHlo.TRef.unary (.of main_cst_12 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S2000, .f32⟩) (broadcastInDim S2000 ![] bcast_S_S2000),
    StableHlo.TRef.binary (.of main_call2_v1 : StableHlo.TRef sig ⟨S2000, .f32⟩) (.of main_v71 : StableHlo.TRef sig ⟨S2000, .f32⟩) (.of main_call2_v2 : StableHlo.TRef sig ⟨S2000, .f32⟩) maximumf,
    StableHlo.TRef.unary (.of main_cst_13 : StableHlo.TRef sig ⟨S_, .f32⟩) (.of main_call2_v3 : StableHlo.TRef sig ⟨S_, .f32⟩) id,
    StableHlo.TRef.unary (.of main_call2_v3 : StableHlo.TRef sig ⟨S_, .f32⟩) (.of main_call2_v4 : StableHlo.TRef sig ⟨S2000, .f32⟩) (broadcastInDim S2000 ![] bcast_S_S2000),
    StableHlo.TRef.binary (.of main_call2_v4 : StableHlo.TRef sig ⟨S2000, .f32⟩) (.of main_call2_v2 : StableHlo.TRef sig ⟨S2000, .f32⟩) (.of main_v72 : StableHlo.TRef sig ⟨S2000, .f32⟩) minimumf ]
/-- Each names core buffers only. -/
theorem pre6_sub : (pre6 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Stretch 7 before the loop. -/
abbrev pre7 : List (HloOp τ sig (Elt F)) :=
  [ StableHlo.unary main_v63 main_v73 ((extractStridedSlice S2000x1 ![0, 3] · slices_S2000x4_S2000x1_0_3) : (⟨S2000x4, .f32⟩ : BufTy).Contents (Elt F) → (⟨S2000x1, .f32⟩ : BufTy).Contents (Elt F)),
    StableHlo.reshape main_v73 main_v74 (rfl : (.f32 : EltTy) = .f32) shapeCasts_S2000x1_S2000,
    StableHlo.nullary main_cst_14 (constant S_ .f32 0x00000000#32),
    StableHlo.nullary main_cst_15 (constant S_ .f32 0x44800000#32) ]
/-- Each names core buffers only. -/
theorem pre7_sub : (pre7 : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub ..⟩
/-- Stretch 8 before the loop. -/
abbrev pre8 : List (HloOp τ sig (Elt F)) :=
  [ StableHlo.TRef.unary (.of main_cst_14 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S2000, .f32⟩) (broadcastInDim S2000 ![] bcast_S_S2000),
    StableHlo.TRef.binary (.of main_call3_v1 : StableHlo.TRef sig ⟨S2000, .f32⟩) (.of main_v74 : StableHlo.TRef sig ⟨S2000, .f32⟩) (.of main_call3_v2 : StableHlo.TRef sig ⟨S2000, .f32⟩) maximumf,
    StableHlo.TRef.unary (.of main_cst_15 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S2000, .f32⟩) (broadcastInDim S2000 ![] bcast_S_S2000),
    StableHlo.TRef.binary (.of main_call3_v4 : StableHlo.TRef sig ⟨S2000, .f32⟩) (.of main_call3_v2 : StableHlo.TRef sig ⟨S2000, .f32⟩) (.of main_v75 : StableHlo.TRef sig ⟨S2000, .f32⟩) minimumf ]
/-- Each names core buffers only. -/
theorem pre8_sub : (pre8 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Stretch 9 before the loop. -/
abbrev pre9 : List (HloOp τ sig (Elt F)) :=
  [ StableHlo.unary main_v66 main_v76 (broadcastInDim S2000x1 ![0] bcast_S2000_S2000x1_0 : (⟨S2000, .f32⟩ : BufTy).Contents (Elt F) → (⟨S2000x1, .f32⟩ : BufTy).Contents (Elt F)),
    StableHlo.unary main_v69 main_v77 (broadcastInDim S2000x1 ![0] bcast_S2000_S2000x1_0 : (⟨S2000, .f32⟩ : BufTy).Contents (Elt F) → (⟨S2000x1, .f32⟩ : BufTy).Contents (Elt F)),
    StableHlo.unary main_v72 main_v78 (broadcastInDim S2000x1 ![0] bcast_S2000_S2000x1_0 : (⟨S2000, .f32⟩ : BufTy).Contents (Elt F) → (⟨S2000x1, .f32⟩ : BufTy).Contents (Elt F)),
    StableHlo.unary main_v75 main_v79 (broadcastInDim S2000x1 ![0] bcast_S2000_S2000x1_0 : (⟨S2000, .f32⟩ : BufTy).Contents (Elt F) → (⟨S2000x1, .f32⟩ : BufTy).Contents (Elt F)),
    StableHlo.nary ![main_v76, main_v77, main_v78, main_v79] main_v80 (fun u => (concatenate S2000x4 1 [⟨S2000x1, (u 0 : (⟨S2000x1, .f32⟩ : BufTy).Contents (Elt F))⟩, ⟨S2000x1, (u 1 : (⟨S2000x1, .f32⟩ : BufTy).Contents (Elt F))⟩, ⟨S2000x1, (u 2 : (⟨S2000x1, .f32⟩ : BufTy).Contents (Elt F))⟩, ⟨S2000x1, (u 3 : (⟨S2000x1, .f32⟩ : BufTy).Contents (Elt F))⟩] concatenates_S2000x1_S2000x1_S2000x1_S2000x1_S2000x4_d1 : (⟨S2000x4, .f32⟩ : BufTy).Contents (Elt F))),
    StableHlo.unary main_v80 main_v81 ((extractStridedSlice S2000x1 ![0, 2] · slices_S2000x4_S2000x1_0_2) : (⟨S2000x4, .f32⟩ : BufTy).Contents (Elt F) → (⟨S2000x1, .f32⟩ : BufTy).Contents (Elt F)),
    StableHlo.reshape main_v81 main_v82 (rfl : (.f32 : EltTy) = .f32) shapeCasts_S2000x1_S2000,
    StableHlo.unary main_v80 main_v83 ((extractStridedSlice S2000x1 ![0, 0] · slices_S2000x4_S2000x1_0_0) : (⟨S2000x4, .f32⟩ : BufTy).Contents (Elt F) → (⟨S2000x1, .f32⟩ : BufTy).Contents (Elt F)),
    StableHlo.reshape main_v83 main_v84 (rfl : (.f32 : EltTy) = .f32) shapeCasts_S2000x1_S2000,
    StableHlo.binary main_v82 main_v84 main_v85 (subf : (⟨S2000, .f32⟩ : BufTy).Contents (Elt F) → (⟨S2000, .f32⟩ : BufTy).Contents (Elt F) → (⟨S2000, .f32⟩ : BufTy).Contents (Elt F)),
    StableHlo.unary main_v80 main_v86 ((extractStridedSlice S2000x1 ![0, 3] · slices_S2000x4_S2000x1_0_3) : (⟨S2000x4, .f32⟩ : BufTy).Contents (Elt F) → (⟨S2000x1, .f32⟩ : BufTy).Contents (Elt F)),
    StableHlo.reshape main_v86 main_v87 (rfl : (.f32 : EltTy) = .f32) shapeCasts_S2000x1_S2000,
    StableHlo.unary main_v80 main_v88 ((extractStridedSlice S2000x1 ![0, 1] · slices_S2000x4_S2000x1_0_1) : (⟨S2000x4, .f32⟩ : BufTy).Contents (Elt F) → (⟨S2000x1, .f32⟩ : BufTy).Contents (Elt F)),
    StableHlo.reshape main_v88 main_v89 (rfl : (.f32 : EltTy) = .f32) shapeCasts_S2000x1_S2000,
    StableHlo.binary main_v87 main_v89 main_v90 (subf : (⟨S2000, .f32⟩ : BufTy).Contents (Elt F) → (⟨S2000, .f32⟩ : BufTy).Contents (Elt F) → (⟨S2000, .f32⟩ : BufTy).Contents (Elt F)),
    StableHlo.nullary main_cst_16 (constant S_ .f32 0x00000000#32),
    StableHlo.unary main_cst_16 main_v91 (broadcastInDim S2000 ![] bcast_S_S2000 : (⟨S_, .f32⟩ : BufTy).Contents (Elt F) → (⟨S2000, .f32⟩ : BufTy).Contents (Elt F)),
    StableHlo.binary main_v85 main_v91 main_v92 (cmpf .ogt : (⟨S2000, .f32⟩ : BufTy).Contents (Elt F) → (⟨S2000, .f32⟩ : BufTy).Contents (Elt F) → (⟨S2000, .i1⟩ : BufTy).Contents (Elt F)),
    StableHlo.nullary main_cst_17 (constant S_ .f32 0x00000000#32),
    StableHlo.unary main_cst_17 main_v93 (broadcastInDim S2000 ![] bcast_S_S2000 : (⟨S_, .f32⟩ : BufTy).Contents (Elt F) → (⟨S2000, .f32⟩ : BufTy).Contents (Elt F)),
    StableHlo.binary main_v90 main_v93 main_v94 (cmpf .ogt : (⟨S2000, .f32⟩ : BufTy).Contents (Elt F) → (⟨S2000, .f32⟩ : BufTy).Contents (Elt F) → (⟨S2000, .i1⟩ : BufTy).Contents (Elt F)),
    StableHlo.binary main_v92 main_v94 main_v95 (andi : (⟨S2000, .i1⟩ : BufTy).Contents (Elt F) → (⟨S2000, .i1⟩ : BufTy).Contents (Elt F) → (⟨S2000, .i1⟩ : BufTy).Contents (Elt F)),
    StableHlo.nullary main_cst_18 (constant S_ .f32 0xD01502F9#32) ]
/-- Each names core buffers only. -/
theorem pre9_sub : (pre9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub ..⟩
/-- Stretch 10 before the loop. -/
abbrev pre10 : List (HloOp τ sig (Elt F)) :=
  [ StableHlo.TRef.unary (.of main_cst_18 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S2000, .f32⟩) (broadcastInDim S2000 ![] bcast_S_S2000),
    StableHlo.TRef.ternary (.of main_v95 : StableHlo.TRef sig ⟨S2000, .i1⟩) (.of main_values : StableHlo.TRef sig ⟨S2000, .f32⟩) (.of main_call4_v1 : StableHlo.TRef sig ⟨S2000, .f32⟩) (.of main_v96 : StableHlo.TRef sig ⟨S2000, .f32⟩) select ]
/-- Each names core buffers only. -/
theorem pre10_sub : (pre10 : List (HloOp τ sig (Elt F))).Forall fun op => op.bufs ⊆ StableHlo.tcRefs τ sig :=
  ⟨StableHlo.unary_bufs_sub .., StableHlo.unary_bufs_sub .., StableHlo.ternary_bufs_sub ..⟩
/-- Stretch 11 before the loop. -/
abbrev pre11 : List (HloOp τ sig (Elt F)) :=
  [ StableHlo.unary main_v80 main_v97 ((extractStridedSlice S2000x1 ![0, 2] · slices_S2000x4_S2000x1_0_2) : (⟨S2000x4, .f32⟩ : BufTy).Contents (Elt F) → (⟨S2000x1, .f32⟩ : BufTy).Contents (Elt F)),
    StableHlo.reshape main_v97 main_v98 (rfl : (.f32 : EltTy) = .f32) shapeCasts_S2000x1_S2000,
    StableHlo.unary main_v80 main_v99 ((extractStridedSlice S2000x1 ![0, 0] · slices_S2000x4_S2000x1_0_0) : (⟨S2000x4, .f32⟩ : BufTy).Contents (Elt F) → (⟨S2000x1, .f32⟩ : BufTy).Contents (Elt F)),
    StableHlo.reshape main_v99 main_v100 (rfl : (.f32 : EltTy) = .f32) shapeCasts_S2000x1_S2000,
    StableHlo.binary main_v98 main_v100 main_v101 (subf : (⟨S2000, .f32⟩ : BufTy).Contents (Elt F) → (⟨S2000, .f32⟩ : BufTy).Contents (Elt F) → (⟨S2000, .f32⟩ : BufTy).Contents (Elt F)),
    StableHlo.unary main_v80 main_v102 ((extractStridedSlice S2000x1 ![0, 3] · slices_S2000x4_S2000x1_0_3) : (⟨S2000x4, .f32⟩ : BufTy).Contents (Elt F) → (⟨S2000x1, .f32⟩ : BufTy).Contents (Elt F)),
    StableHlo.reshape main_v102 main_v103 (rfl : (.f32 : EltTy) = .f32) shapeCasts_S2000x1_S2000,
    StableHlo.unary main_v80 main_v104 ((extractStridedSlice S2000x1 ![0, 1] · slices_S2000x4_S2000x1_0_1) : (⟨S2000x4, .f32⟩ : BufTy).Contents (Elt F) → (⟨S2000x1, .f32⟩ : BufTy).Contents (Elt F)),
    StableHlo.reshape main_v104 main_v105 (rfl : (.f32 : EltTy) = .f32) shapeCasts_S2000x1_S2000,
    StableHlo.binary main_v103 main_v105 main_v106 (subf : (⟨S2000, .f32⟩ : BufTy).Contents (Elt F) → (⟨S2000, .f32⟩ : BufTy).Contents (Elt F) → (⟨S2000, .f32⟩ : BufTy).Contents (Elt F)),
    StableHlo.binary main_v101 main_v106 main_v107 (mulf : (⟨S2000, .f32⟩ : BufTy).Contents (Elt F) → (⟨S2000, .f32⟩ : BufTy).Contents (Elt F) → (⟨S2000, .f32⟩ : BufTy).Contents (Elt F)),
    StableHlo.unary main_v80 main_v108 ((extractStridedSlice S2000x2 ![0, 0] · slices_S2000x4_S2000x2_0_0) : (⟨S2000x4, .f32⟩ : BufTy).Contents (Elt F) → (⟨S2000x2, .f32⟩ : BufTy).Contents (Elt F)),
    StableHlo.unary main_v108 main_v109 (broadcastInDim S2000x1x2 ![0, 2] bcast_S2000x2_S2000x1x2_0_2 : (⟨S2000x2, .f32⟩ : BufTy).Contents (Elt F) → (⟨S2000x1x2, .f32⟩ : BufTy).Contents (Elt F)),
    StableHlo.unary main_v80 main_v110 ((extractStridedSlice S2000x2 ![0, 0] · slices_S2000x4_S2000x2_0_0) : (⟨S2000x4, .f32⟩ : BufTy).Contents (Elt F) → (⟨S2000x2, .f32⟩ : BufTy).Contents (Elt F)),
    StableHlo.unary main_v110 main_v111 (broadcastInDim S1x2000x2 ![1, 2] bcast_S2000x2_S1x2000x2_1_2 : (⟨S2000x2, .f32⟩ : BufTy).Contents (Elt F) → (⟨S1x2000x2, .f32⟩ : BufTy).Contents (Elt F)),
    StableHlo.unary main_v109 main_v112 (broadcastInDim S2000x2000x2 ![0, 1, 2] bcast_S2000x1x2_S2000x2000x2_0_1_2 : (⟨S2000x1x2, .f32⟩ : BufTy).Contents (Elt F) → (⟨S2000x2000x2, .f32⟩ : BufTy).Contents (Elt F)),
    StableHlo.unary main_v111 main_v113 (broadcastInDim S2000x2000x2 ![0, 1, 2] bcast_S1x2000x2_S2000x2000x2_0_1_2 : (⟨S1x2000x2, .f32⟩ : BufTy).Contents (Elt F) → (⟨S2000x2000x2, .f32⟩ : BufTy).Contents (Elt F)),
    StableHlo.binary main_v112 main_v113 main_v114 (maximumf : (⟨S2000x2000x2, .f32⟩ : BufTy).Contents (Elt F) → (⟨S2000x2000x2, .f32⟩ : BufTy).Contents (Elt F) → (⟨S2000x2000x2, .f32⟩ : BufTy).Contents (Elt F)),
    StableHlo.unary main_v80 main_v115 ((extractStridedSlice S2000x2 ![0, 2] · slices_S2000x4_S2000x2_0_2) : (⟨S2000x4, .f32⟩ : BufTy).Contents (Elt F) → (⟨S2000x2, .f32⟩ : BufTy).Contents (Elt F)),
    StableHlo.unary main_v115 main_v116 (broadcastInDim S2000x1x2 ![0, 2] bcast_S2000x2_S2000x1x2_0_2 : (⟨S2000x2, .f32⟩ : BufTy).Contents (Elt F) → (⟨S2000x1x2, .f32⟩ : BufTy).Contents (Elt F)),
    StableHlo.unary main_v80 main_v117 ((extractStridedSlice S2000x2 ![0, 2] · slices_S2000x4_S2000x2_0_2) : (⟨S2000x4, .f32⟩ : BufTy).Contents (Elt F) → (⟨S2000x2, .f32⟩ : BufTy).Contents (Elt F)),
    StableHlo.unary main_v117 main_v118 (broadcastInDim S1x2000x2 ![1, 2] bcast_S2000x2_S1x2000x2_1_2 : (⟨S2000x2, .f32⟩ : BufTy).Contents (Elt F) → (⟨S1x2000x2, .f32⟩ : BufTy).Contents (Elt F)),
    StableHlo.unary main_v116 main_v119 (broadcastInDim S2000x2000x2 ![0, 1, 2] bcast_S2000x1x2_S2000x2000x2_0_1_2 : (⟨S2000x1x2, .f32⟩ : BufTy).Contents (Elt F) → (⟨S2000x2000x2, .f32⟩ : BufTy).Contents (Elt F)),
    StableHlo.unary main_v118 main_v120 (broadcastInDim S2000x2000x2 ![0, 1, 2] bcast_S1x2000x2_S2000x2000x2_0_1_2 : (⟨S1x2000x2, .f32⟩ : BufTy).Contents (Elt F) → (⟨S2000x2000x2, .f32⟩ : BufTy).Contents (Elt F)),
    StableHlo.binary main_v119 main_v120 main_v121 (minimumf : (⟨S2000x2000x2, .f32⟩ : BufTy).Contents (Elt F) → (⟨S2000x2000x2, .f32⟩ : BufTy).Contents (Elt F) → (⟨S2000x2000x2, .f32⟩ : BufTy).Contents (Elt F)),
    StableHlo.binary main_v121 main_v114 main_v122 (subf : (⟨S2000x2000x2, .f32⟩ : BufTy).Contents (Elt F) → (⟨S2000x2000x2, .f32⟩ : BufTy).Contents (Elt F) → (⟨S2000x2000x2, .f32⟩ : BufTy).Contents (Elt F)),
    StableHlo.nullary main_cst_19 (constant S_ .f32 0x00000000#32) ]
/-- Each names core buffers only. -/
theorem pre11_sub : (pre11 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- Stretch 12 before the loop. -/
abbrev pre12 : List (HloOp τ sig (Elt F)) :=
  [ StableHlo.TRef.unary (.of main_cst_19 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S2000x2000x2, .f32⟩) (broadcastInDim S2000x2000x2 ![] bcast_S_S2000x2000x2),
    StableHlo.TRef.binary (.of main_call5_v1 : StableHlo.TRef sig ⟨S2000x2000x2, .f32⟩) (.of main_v122 : StableHlo.TRef sig ⟨S2000x2000x2, .f32⟩) (.of main_v123 : StableHlo.TRef sig ⟨S2000x2000x2, .f32⟩) maximumf ]
/-- Each names core buffers only. -/
theorem pre12_sub : (pre12 : List (HloOp τ sig (Elt F))).Forall fun op => op.bufs ⊆ StableHlo.tcRefs τ sig :=
  ⟨StableHlo.unary_bufs_sub .., StableHlo.unary_bufs_sub .., StableHlo.binary_bufs_sub ..⟩
/-- Stretch 13 before the loop. -/
abbrev pre13 : List (HloOp τ sig (Elt F)) :=
  [ StableHlo.unary main_v123 main_v124 ((extractStridedSlice S2000x2000x1 ![0, 0, 0] · slices_S2000x2000x2_S2000x2000x1_0_0_0) : (⟨S2000x2000x2, .f32⟩ : BufTy).Contents (Elt F) → (⟨S2000x2000x1, .f32⟩ : BufTy).Contents (Elt F)),
    StableHlo.reshape main_v124 main_v125 (rfl : (.f32 : EltTy) = .f32) shapeCasts_S2000x2000x1_S2000x2000,
    StableHlo.unary main_v123 main_v126 ((extractStridedSlice S2000x2000x1 ![0, 0, 1] · slices_S2000x2000x2_S2000x2000x1_0_0_1) : (⟨S2000x2000x2, .f32⟩ : BufTy).Contents (Elt F) → (⟨S2000x2000x1, .f32⟩ : BufTy).Contents (Elt F)),
    StableHlo.reshape main_v126 main_v127 (rfl : (.f32 : EltTy) = .f32) shapeCasts_S2000x2000x1_S2000x2000,
    StableHlo.binary main_v125 main_v127 main_v128 (mulf : (⟨S2000x2000, .f32⟩ : BufTy).Contents (Elt F) → (⟨S2000x2000, .f32⟩ : BufTy).Contents (Elt F) → (⟨S2000x2000, .f32⟩ : BufTy).Contents (Elt F)),
    StableHlo.unary main_v107 main_v129 (broadcastInDim S2000x1 ![0] bcast_S2000_S2000x1_0 : (⟨S2000, .f32⟩ : BufTy).Contents (Elt F) → (⟨S2000x1, .f32⟩ : BufTy).Contents (Elt F)),
    StableHlo.unary main_v107 main_v130 (broadcastInDim S1x2000 ![1] bcast_S2000_S1x2000_1 : (⟨S2000, .f32⟩ : BufTy).Contents (Elt F) → (⟨S1x2000, .f32⟩ : BufTy).Contents (Elt F)),
    StableHlo.unary main_v129 main_v131 (broadcastInDim S2000x2000 ![0, 1] bcast_S2000x1_S2000x2000_0_1 : (⟨S2000x1, .f32⟩ : BufTy).Contents (Elt F) → (⟨S2000x2000, .f32⟩ : BufTy).Contents (Elt F)),
    StableHlo.unary main_v130 main_v132 (broadcastInDim S2000x2000 ![0, 1] bcast_S1x2000_S2000x2000_0_1 : (⟨S1x2000, .f32⟩ : BufTy).Contents (Elt F) → (⟨S2000x2000, .f32⟩ : BufTy).Contents (Elt F)),
    StableHlo.binary main_v131 main_v132 main_v133 (addf : (⟨S2000x2000, .f32⟩ : BufTy).Contents (Elt F) → (⟨S2000x2000, .f32⟩ : BufTy).Contents (Elt F) → (⟨S2000x2000, .f32⟩ : BufTy).Contents (Elt F)),
    StableHlo.binary main_v133 main_v128 main_v134 (subf : (⟨S2000x2000, .f32⟩ : BufTy).Contents (Elt F) → (⟨S2000x2000, .f32⟩ : BufTy).Contents (Elt F) → (⟨S2000x2000, .f32⟩ : BufTy).Contents (Elt F)),
    StableHlo.nullary main_cst_20 (constant S_ .f32 0x358637BD#32),
    StableHlo.unary main_cst_20 main_v135 (broadcastInDim S2000x2000 ![] bcast_S_S2000x2000 : (⟨S_, .f32⟩ : BufTy).Contents (Elt F) → (⟨S2000x2000, .f32⟩ : BufTy).Contents (Elt F)),
    StableHlo.binary main_v134 main_v135 main_v136 (maximumf : (⟨S2000x2000, .f32⟩ : BufTy).Contents (Elt F) → (⟨S2000x2000, .f32⟩ : BufTy).Contents (Elt F) → (⟨S2000x2000, .f32⟩ : BufTy).Contents (Elt F)),
    StableHlo.binary main_v128 main_v136 main_v137 (Host.divf : (⟨S2000x2000, .f32⟩ : BufTy).Contents (Elt F) → (⟨S2000x2000, .f32⟩ : BufTy).Contents (Elt F) → (⟨S2000x2000, .f32⟩ : BufTy).Contents (Elt F)),
    StableHlo.nullary main_cst_21 (constant S_ .f32 0x3F333333#32),
    StableHlo.unary main_cst_21 main_v138 (broadcastInDim S2000x2000 ![] bcast_S_S2000x2000 : (⟨S_, .f32⟩ : BufTy).Contents (Elt F) → (⟨S2000x2000, .f32⟩ : BufTy).Contents (Elt F)),
    StableHlo.binary main_v137 main_v138 main_v139 (cmpf .ogt : (⟨S2000x2000, .f32⟩ : BufTy).Contents (Elt F) → (⟨S2000x2000, .f32⟩ : BufTy).Contents (Elt F) → (⟨S2000x2000, .i1⟩ : BufTy).Contents (Elt F)),
    StableHlo.nullary main_v140 (iotaInDim S2000 32 0),
    StableHlo.nullary main_c_22 (constantI S_ 32 0#32),
    StableHlo.nullary main_c_23 (constantI S_ 32 0#32),
    StableHlo.unary main_v139 main_v141_0 id,
    StableHlo.unary main_v140 main_v141_1 id,
    StableHlo.unary main_c_23 main_v141_2 id,
    StableHlo.unary main_c_22 main_v141_3 id,
    StableHlo.unary main_v95 main_v141_4 id ]
/-- Each names core buffers only. -/
theorem pre13_sub : (pre13 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
/-- Stretch 0 after the loop. -/
abbrev post0 : List (HloOp τ sig (Elt F)) :=
  [ StableHlo.nullary main_cst_24 (constant S_ .f32 0xD01502F9#32) ]
/-- Each names core buffers only. -/
theorem post0_sub : (post0 : List (HloOp τ sig (Elt F))).Forall fun op => op.bufs ⊆ StableHlo.tcRefs τ sig :=
  StableHlo.nullary_bufs_sub ..
/-- Stretch 1 after the loop. -/
abbrev post1 : List (HloOp τ sig (Elt F)) :=
  [ StableHlo.TRef.unary (.of main_cst_24 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S2000, .f32⟩) (broadcastInDim S2000 ![] bcast_S_S2000),
    StableHlo.TRef.ternary (.of main_v141_4 : StableHlo.TRef sig ⟨S2000, .i1⟩) (.of main_v96 : StableHlo.TRef sig ⟨S2000, .f32⟩) (.of main_call7_v1 : StableHlo.TRef sig ⟨S2000, .f32⟩) (.of main_v142 : StableHlo.TRef sig ⟨S2000, .f32⟩) select ]
/-- Each names core buffers only. -/
theorem post1_sub : (post1 : List (HloOp τ sig (Elt F))).Forall fun op => op.bufs ⊆ StableHlo.tcRefs τ sig :=
  ⟨StableHlo.unary_bufs_sub .., StableHlo.unary_bufs_sub .., StableHlo.ternary_bufs_sub ..⟩
/-- Stretch 2 after the loop. -/
abbrev post2 : List (HloOp τ sig (Elt F)) :=
  [ StableHlo.unary main_v142 main_values_25 ((fun x => (Host.topK S1000 0 (FloatOps.cmpfTotal .gt) x sliceFits_S2000_S1000).1) : (⟨S2000, .f32⟩ : BufTy).Contents (Elt F) → (⟨S1000, .f32⟩ : BufTy).Contents (Elt F)),
    StableHlo.unary main_v142 main_indices_26 ((fun x => (Host.topK S1000 0 (FloatOps.cmpfTotal .gt) x sliceFits_S2000_S1000).2) : (⟨S2000, .f32⟩ : BufTy).Contents (Elt F) → (⟨S1000, .i32⟩ : BufTy).Contents (Elt F)),
    StableHlo.nullary main_c_27 (constantI S_ 32 0#32),
    StableHlo.unary main_c_27 main_v143 (broadcastInDim S1000 ![] bcast_S_S1000 : (⟨S_, .i32⟩ : BufTy).Contents (Elt F) → (⟨S1000, .i32⟩ : BufTy).Contents (Elt F)),
    StableHlo.binary main_indices_26 main_v143 main_v144 (cmpi .slt : (⟨S1000, .i32⟩ : BufTy).Contents (Elt F) → (⟨S1000, .i32⟩ : BufTy).Contents (Elt F) → (⟨S1000, .i1⟩ : BufTy).Contents (Elt F)),
    StableHlo.nullary main_c_28 (constantI S_ 32 2000#32),
    StableHlo.unary main_c_28 main_v145 (broadcastInDim S1000 ![] bcast_S_S1000 : (⟨S_, .i32⟩ : BufTy).Contents (Elt F) → (⟨S1000, .i32⟩ : BufTy).Contents (Elt F)),
    StableHlo.binary main_indices_26 main_v145 main_v146 (addi : (⟨S1000, .i32⟩ : BufTy).Contents (Elt F) → (⟨S1000, .i32⟩ : BufTy).Contents (Elt F) → (⟨S1000, .i32⟩ : BufTy).Contents (Elt F)),
    StableHlo.ternary main_v144 main_v146 main_indices_26 main_v147 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v147 main_v148 (broadcastInDim S1000x1 ![0] bcast_S1000_S1000x1_0 : (⟨S1000, .i32⟩ : BufTy).Contents (Elt F) → (⟨S1000x1, .i32⟩ : BufTy).Contents (Elt F)),
    StableHlo.binary main_v80 main_v148 main_v149 ((fun x i => Host.gather gather_S2000x4_S1000x1_S1000x4_1_0_n_n_0_1_14 x i) : (⟨S2000x4, .f32⟩ : BufTy).Contents (Elt F) → (⟨S1000x1, .i32⟩ : BufTy).Contents (Elt F) → (⟨S1000x4, .f32⟩ : BufTy).Contents (Elt F)),
    StableHlo.unary main_values_25 main_v150 (broadcastInDim S1000x1 ![0] bcast_S1000_S1000x1_0 : (⟨S1000, .f32⟩ : BufTy).Contents (Elt F) → (⟨S1000x1, .f32⟩ : BufTy).Contents (Elt F)),
    StableHlo.binary main_v149 main_v150 main_v151 ((fun a b => concatenate S1000x5 1 [⟨S1000x4, a⟩, ⟨S1000x1, b⟩] concatenates_S1000x4_S1000x1_S1000x5_d1) : (⟨S1000x4, .f32⟩ : BufTy).Contents (Elt F) → (⟨S1000x1, .f32⟩ : BufTy).Contents (Elt F) → (⟨S1000x5, .f32⟩ : BufTy).Contents (Elt F)) ]
/-- Each names core buffers only. -/
theorem post2_sub : (post2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub ..⟩
/-- Stretch 0 of the loop body. -/
abbrev trip0 : List (HloOp τ sig (Elt F)) :=
  [ StableHlo.nullary main_while0b_c_33 (constantI S_ 32 1#32),
    StableHlo.binary main_v141_3 main_while0b_c_33 main_while0b_v152 (addi : (⟨S_, .i32⟩ : BufTy).Contents (Elt F) → (⟨S_, .i32⟩ : BufTy).Contents (Elt F) → (⟨S_, .i32⟩ : BufTy).Contents (Elt F)),
    StableHlo.unary main_v141_3 main_while0b_v153 (id : (⟨S_, .i32⟩ : BufTy).Contents (Elt F) → (⟨S_, .i32⟩ : BufTy).Contents (Elt F)),
    StableHlo.nullary main_while0b_c_34 (constantI S_ 32 0#32),
    StableHlo.binary main_while0b_v153 main_while0b_c_34 main_while0b_v154 (cmpi .slt : (⟨S_, .i32⟩ : BufTy).Contents (Elt F) → (⟨S_, .i32⟩ : BufTy).Contents (Elt F) → (⟨S_, .i1⟩ : BufTy).Contents (Elt F)),
    StableHlo.nullary main_while0b_c_35 (constantI S_ 32 2000#32),
    StableHlo.binary main_while0b_v153 main_while0b_c_35 main_while0b_v155 (addi : (⟨S_, .i32⟩ : BufTy).Contents (Elt F) → (⟨S_, .i32⟩ : BufTy).Contents (Elt F) → (⟨S_, .i32⟩ : BufTy).Contents (Elt F)),
    StableHlo.ternary main_while0b_v154 main_while0b_v155 main_while0b_v153 main_while0b_v156 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_36 (constantI S_ 32 0#32),
    StableHlo.nullary main_while0b_c_37 (constantI S_ 32 0#32),
    StableHlo.binary main_while0b_c_36 main_while0b_c_37 main_while0b_v157 (cmpi .slt : (⟨S_, .i32⟩ : BufTy).Contents (Elt F) → (⟨S_, .i32⟩ : BufTy).Contents (Elt F) → (⟨S_, .i1⟩ : BufTy).Contents (Elt F)),
    StableHlo.nullary main_while0b_c_38 (constantI S_ 32 0#32),
    StableHlo.nullary main_while0b_c_39 (constantI S_ 32 2000#32),
    StableHlo.binary main_while0b_c_38 main_while0b_c_39 main_while0b_v158 (addi : (⟨S_, .i32⟩ : BufTy).Contents (Elt F) → (⟨S_, .i32⟩ : BufTy).Contents (Elt F) → (⟨S_, .i32⟩ : BufTy).Contents (Elt F)),
    StableHlo.nullary main_while0b_c_40 (constantI S_ 32 0#32),
    StableHlo.ternary main_while0b_v157 main_while0b_v158 main_while0b_c_40 main_while0b_v159 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v141_0 ![main_while0b_v156, main_while0b_v159] ⟨S_, .i32⟩ main_while0b_v160 ((fun x i => Host.dynamicSlice S1x2000 x (fun k => (i k (Shape.Idx.first h_S_)).toInt) sliceFits_S2000x2000_S1x2000) : (⟨S2000x2000, .i1⟩ : BufTy).Contents (Elt F) → (Fin 2 → (⟨S_, .i32⟩ : BufTy).Contents (Elt F)) → (⟨S1x2000, .i1⟩ : BufTy).Contents (Elt F)),
    StableHlo.reshape main_while0b_v160 main_while0b_v161 (rfl : (.i1 : EltTy) = .i1) shapeCasts_S1x2000_S2000,
    StableHlo.unary main_v141_3 main_while0b_v162 (id : (⟨S_, .i32⟩ : BufTy).Contents (Elt F) → (⟨S_, .i32⟩ : BufTy).Contents (Elt F)),
    StableHlo.unary main_while0b_v162 main_while0b_v163 (broadcastInDim S2000 ![] bcast_S_S2000 : (⟨S_, .i32⟩ : BufTy).Contents (Elt F) → (⟨S2000, .i32⟩ : BufTy).Contents (Elt F)),
    StableHlo.binary main_v141_1 main_while0b_v163 main_while0b_v164 (cmpi .sgt : (⟨S2000, .i32⟩ : BufTy).Contents (Elt F) → (⟨S2000, .i32⟩ : BufTy).Contents (Elt F) → (⟨S2000, .i1⟩ : BufTy).Contents (Elt F)),
    StableHlo.binary main_while0b_v161 main_while0b_v164 main_while0b_v165 (andi : (⟨S2000, .i1⟩ : BufTy).Contents (Elt F) → (⟨S2000, .i1⟩ : BufTy).Contents (Elt F) → (⟨S2000, .i1⟩ : BufTy).Contents (Elt F)),
    StableHlo.nullary main_while0b_c_41 (constantI S_ 32 0#32),
    StableHlo.binary main_v141_3 main_while0b_c_41 main_while0b_v166 (cmpi .slt : (⟨S_, .i32⟩ : BufTy).Contents (Elt F) → (⟨S_, .i32⟩ : BufTy).Contents (Elt F) → (⟨S_, .i1⟩ : BufTy).Contents (Elt F)),
    StableHlo.unary main_v141_3 main_while0b_v167 (id : (⟨S_, .i32⟩ : BufTy).Contents (Elt F) → (⟨S_, .i32⟩ : BufTy).Contents (Elt F)),
    StableHlo.nullary main_while0b_c_42 (constantI S_ 32 2000#32),
    StableHlo.binary main_while0b_v167 main_while0b_c_42 main_while0b_v168 (addi : (⟨S_, .i32⟩ : BufTy).Contents (Elt F) → (⟨S_, .i32⟩ : BufTy).Contents (Elt F) → (⟨S_, .i32⟩ : BufTy).Contents (Elt F)),
    StableHlo.ternary main_while0b_v166 main_while0b_v168 main_v141_3 main_while0b_v169 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v141_4 ![main_while0b_v169] ⟨S_, .i32⟩ main_while0b_v170 ((fun x i => Host.dynamicSlice S1 x (fun k => (i k (Shape.Idx.first h_S_)).toInt) sliceFits_S2000_S1) : (⟨S2000, .i1⟩ : BufTy).Contents (Elt F) → (Fin 1 → (⟨S_, .i32⟩ : BufTy).Contents (Elt F)) → (⟨S1, .i1⟩ : BufTy).Contents (Elt F)),
    StableHlo.reshape main_while0b_v170 main_while0b_v171 (rfl : (.i1 : EltTy) = .i1) shapeCasts_S1_S_,
    StableHlo.unary main_while0b_v165 main_while0b_v172 (noti : (⟨S2000, .i1⟩ : BufTy).Contents (Elt F) → (⟨S2000, .i1⟩ : BufTy).Contents (Elt F)),
    StableHlo.binary main_v141_4 main_while0b_v172 main_while0b_v173 (andi : (⟨S2000, .i1⟩ : BufTy).Contents (Elt F) → (⟨S2000, .i1⟩ : BufTy).Contents (Elt F) → (⟨S2000, .i1⟩ : BufTy).Contents (Elt F)) ]
/-- Each names core buffers only. -/
theorem trip0_sub : (trip0 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.binary_bufs_sub ..⟩
/-- Stretch 1 of the loop body. -/
abbrev trip1 : List (HloOp τ sig (Elt F)) :=
  [ StableHlo.TRef.ternary (.of main_while0b_v171 : StableHlo.TRef sig ⟨S_, .i1⟩) (.of main_while0b_v173 : StableHlo.TRef sig ⟨S2000, .i1⟩) (.of main_v141_4 : StableHlo.TRef sig ⟨S2000, .i1⟩) (.of main_while0b_v174 : StableHlo.TRef sig ⟨S2000, .i1⟩) (fun p a b => select (broadcastInDim S2000 ![] bcast_S_S2000 p) a b) ]
/-- Each names core buffers only. -/
theorem trip1_sub : (trip1 : List (HloOp τ sig (Elt F))).Forall fun op => op.bufs ⊆ StableHlo.tcRefs τ sig :=
  StableHlo.ternary_bufs_sub ..
/-- Stretch 2 of the loop body. -/
abbrev trip2 : List (HloOp τ sig (Elt F)) :=
  [ StableHlo.nullary main_while0b_c_43 (constantI S_ 32 1#32),
    StableHlo.binary main_v141_2 main_while0b_c_43 main_while0b_v175 (addi : (⟨S_, .i32⟩ : BufTy).Contents (Elt F) → (⟨S_, .i32⟩ : BufTy).Contents (Elt F) → (⟨S_, .i32⟩ : BufTy).Contents (Elt F)),
    StableHlo.unary main_while0b_v175 main_v141_2 id,
    StableHlo.unary main_while0b_v152 main_v141_3 id,
    StableHlo.unary main_while0b_v174 main_v141_4 id ]
/-- Each names core buffers only. -/
theorem trip2_sub : (trip2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-- The loop's condition: the bound and the comparison. -/
abbrev condOps : List (HloOp τ sig (Elt F)) :=
  [ StableHlo.nullary main_while0c_c_33 (constantI S_ 32 2000#32),
    StableHlo.binary main_v141_2 main_while0c_c_33 main_while0c_v152 (cmpi .slt : (⟨S_, .i32⟩ : BufTy).Contents (Elt F) → (⟨S_, .i32⟩ : BufTy).Contents (Elt F) → (⟨S_, .i1⟩ : BufTy).Contents (Elt F)) ]

/-- The stretches before the loop. -/
abbrev preI : List (List (HloOp τ sig (Elt F))) := [pre0, pre1, pre2, pre3, pre4, pre5, pre6, pre7, pre8, pre9, pre10, pre11, pre12, pre13]
/-- The stretches after the loop. -/
abbrev postI : List (List (HloOp τ sig (Elt F))) := [post0, post1, post2]
/-- The stretches of the loop's body. -/
abbrev bodyI : List (List (HloOp τ sig (Elt F))) := [trip0, trip1, trip2]

theorem plain_pre : StableHlo.Plain (preI (F := F)) := (.cons pre0_sub (.cons pre1_sub (.cons pre2_sub (.cons pre3_sub (.cons pre4_sub (.cons pre5_sub (.cons pre6_sub (.cons pre7_sub (.cons pre8_sub (.cons pre9_sub (.cons pre10_sub (.cons pre11_sub (.cons pre12_sub (.cons pre13_sub .nil))))))))))))))
theorem plain_post : StableHlo.Plain (postI (F := F)) := (.cons post0_sub (.cons post1_sub (.cons post2_sub .nil)))
theorem plain_body : StableHlo.Plain (bodyI (F := F)) := (.cons trip0_sub (.cons trip1_sub (.cons trip2_sub .nil)))

theorem body_chain : main_while0_body (F := F) = Pipeline.chain ((bodyI (F := F)).map fun ops => (StableHlo.seq ops : Prog _ PUnit)) := by
  show _ = Pipeline.chain [StableHlo.seq trip0, StableHlo.seq trip1, StableHlo.seq trip2]
  rewrite [StableHlo.chain_seq_cons, Pipeline.chain_cons, StableHlo.chain_seq_cons]
  chain_rfl

theorem main_chain (c : Dev nD) : main (F := F) c = Pipeline.chain (((preI (F := F)).map fun ops => (StableHlo.seq ops : Prog _ PUnit))
    ++ HostLoop.enter 0 :: (postI (F := F)).map fun ops => (StableHlo.seq ops : Prog _ PUnit)) := by
  show _ = Pipeline.chain [StableHlo.seq pre0, StableHlo.seq pre1, StableHlo.seq pre2, StableHlo.seq pre3, StableHlo.seq pre4, StableHlo.seq pre5, StableHlo.seq pre6, StableHlo.seq pre7, StableHlo.seq pre8, StableHlo.seq pre9, StableHlo.seq pre10, StableHlo.seq pre11, StableHlo.seq pre12, StableHlo.seq pre13, HostLoop.enter 0, StableHlo.seq post0, StableHlo.seq post1, StableHlo.seq post2]
  rewrite [StableHlo.chain_seq_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.Proof.Ref

end
-- ==== Proof.RefRun.lean ====
/- The reference's run: its counted loop of 2000 trips over the keep mask, by the run of a host program with one
   counted loop; its arguments end as launched and it has no semaphore. -/
module

public import proofs.«01_k».proof.Proof.RefOps
public import Idealize.ShloMosaic.Lib.Quiescent
public import Idealize.ShloMosaic.Lib.StableHlo.RunClose

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One greedy step over the mask, as the reference's operations: row `i` of the matrix, kept to the later columns, is
    taken out of the mask when the mask holds `i`. -/
def stepV (M : IVec S2000x2000 1) (ar : IVec S2000 32) (i : IVec S_ 32) (kp : IVec S2000 1) : IVec S2000 1 :=
  select (broadcastInDim S2000 ![] bcast_S_S2000
      (shapeCast S_ (Host.dynamicSlice S1 kp (fun k => BitVec.toInt (![select (cmpi .slt i (constantI S_ 32 0#32))
        (addi i (constantI S_ 32 2000#32)) i] k (Shape.Idx.first h_S_))) sliceFits_S2000_S1) shapeCasts_S1_S_))
    (andi kp (noti (andi
      (shapeCast S2000 (Host.dynamicSlice S1x2000 M (fun k => BitVec.toInt (![select (cmpi .slt i (constantI S_ 32 0#32))
          (addi i (constantI S_ 32 2000#32)) i,
          select (cmpi .slt (constantI S_ 32 0#32) (constantI S_ 32 0#32))
            (addi (constantI S_ 32 0#32) (constantI S_ 32 2000#32)) (constantI S_ 32 0#32)] k (Shape.Idx.first h_S_)))
        sliceFits_S2000x2000_S1x2000) shapeCasts_S1x2000_S2000)
      (cmpi .sgt ar (broadcastInDim S2000 ![] bcast_S_S2000 i)))))
    kp

/-- What one trip writes into the counter. -/
theorem trip_ctr (W : Valuation τ sig (Elt F)) :
    afterL bodyI (after condOps W) main_v141_2 = addi (W main_v141_2) (constantI S_ 32 1#32) := by
  simp only [afterL_cons, afterL_nil]
  after_results_simp
  rfl

theorem trip_idx (W : Valuation τ sig (Elt F)) :
    afterL bodyI (after condOps W) main_v141_3 = addi (W main_v141_3) (constantI S_ 32 1#32) := by
  simp only [afterL_cons, afterL_nil]
  after_results_simp
  rfl

theorem trip_mat (W : Valuation τ sig (Elt F)) :
    afterL bodyI (after condOps W) main_v141_0 = W main_v141_0 := by
  simp only [afterL_cons, afterL_nil]
  after_results_simp

theorem trip_iota (W : Valuation τ sig (Elt F)) :
    afterL bodyI (after condOps W) main_v141_1 = W main_v141_1 := by
  simp only [afterL_cons, afterL_nil]
  after_results_simp

theorem trip_v80 (W : Valuation τ sig (Elt F)) :
    afterL bodyI (after condOps W) main_v80 = W main_v80 := by
  simp only [afterL_cons, afterL_nil]
  after_results_simp

theorem trip_v96 (W : Valuation τ sig (Elt F)) :
    afterL bodyI (after condOps W) main_v96 = W main_v96 := by
  simp only [afterL_cons, afterL_nil]
  after_results_simp

theorem trip_keep (W : Valuation τ sig (Elt F)) :
    afterL bodyI (after condOps W) main_v141_4
      = stepV (W main_v141_0) (W main_v141_1) (W main_v141_3) (W main_v141_4) := by
  simp only [afterL_cons, afterL_nil]
  after_results_simp_entrywise
  rfl

/-- The contents before the `k`-th run of the condition. -/
abbrev Wk (m : (ℓ : Loc nD τ sig) → Buf (Elt F) ℓ) (k : ℕ) (c : Dev nD) : Valuation τ sig (Elt F) :=
  atTrip condOps bodyI (entryContents preI m) k c

variable (m : (ℓ : Loc nD τ sig) → Buf (Elt F) ℓ)

/-- The contents before the last stretch ahead of the loop. -/
abbrev W13 (c : Dev nD) : Valuation τ sig (Elt F) :=
  afterL [pre0, pre1, pre2, pre3, pre4, pre5, pre6, pre7, pre8, pre9, pre10, pre11, pre12] (launchContents m c)

theorem entry_eq (c : Dev nD) : entryContents preI m c = after pre13 (W13 m c) := rfl

theorem entry_ctr (c : Dev nD) : entryContents preI m c main_v141_2 = (fun _ => 0#32 : IVec S_ 32) := by
  rw [entry_eq]
  after_results_simp
  rfl

theorem entry_idx (c : Dev nD) : entryContents preI m c main_v141_3 = (fun _ => 0#32 : IVec S_ 32) := by
  rw [entry_eq]
  after_results_simp
  rfl

theorem entry_iota (c : Dev nD) : entryContents preI m c main_v141_1 = iotaInDim S2000 32 0 := by
  rw [entry_eq]
  after_results_simp
  rfl

theorem succ_word (k : ℕ) : addi (fun _ => BitVec.ofNat 32 k : IVec S_ 32) (constantI S_ 32 1#32) = (fun _ => BitVec.ofNat 32 (k + 1) : IVec S_ 32) := by
  funext i
  show BitVec.ofNat 32 k + 1#32 = _
  rw [BitVec.ofNat_add]

theorem at_ctr (c : Dev nD) : ∀ k, Wk m k c main_v141_2 = (fun _ => BitVec.ofNat 32 k : IVec S_ 32)
  | 0 => entry_ctr m c
  | k + 1 => by
    show afterL bodyI (after condOps (Wk m k c)) main_v141_2 = _
    rw [trip_ctr, at_ctr c k]
    exact succ_word k

theorem at_idx (c : Dev nD) : ∀ k, Wk m k c main_v141_3 = (fun _ => BitVec.ofNat 32 k : IVec S_ 32)
  | 0 => entry_idx m c
  | k + 1 => by
    show afterL bodyI (after condOps (Wk m k c)) main_v141_3 = _
    rw [trip_idx, at_idx c k]
    exact succ_word k

theorem at_iota (c : Dev nD) : ∀ k, Wk m k c main_v141_1 = iotaInDim S2000 32 0
  | 0 => entry_iota m c
  | k + 1 => by
    show afterL bodyI (after condOps (Wk m k c)) main_v141_1 = _
    rw [trip_iota, at_iota c k]

theorem at_mat (c : Dev nD) : ∀ k, Wk m k c main_v141_0 = entryContents preI m c main_v141_0
  | 0 => rfl
  | k + 1 => by
    show afterL bodyI (after condOps (Wk m k c)) main_v141_0 = _
    rw [trip_mat, at_mat c k]

theorem at_v80 (c : Dev nD) : ∀ k, Wk m k c main_v80 = entryContents preI m c main_v80
  | 0 => rfl
  | k + 1 => by
    show afterL bodyI (after condOps (Wk m k c)) main_v80 = _
    rw [trip_v80, at_v80 c k]

theorem at_v96 (c : Dev nD) : ∀ k, Wk m k c main_v96 = entryContents preI m c main_v96
  | 0 => rfl
  | k + 1 => by
    show afterL bodyI (after condOps (Wk m k c)) main_v96 = _
    rw [trip_v96, at_v96 c k]

theorem at_keep_succ (c : Dev nD) (k : ℕ) : Wk m (k + 1) c main_v141_4
    = stepV (entryContents preI m c main_v141_0) (iotaInDim S2000 32 0) (fun _ => BitVec.ofNat 32 k) (Wk m k c main_v141_4) := by
  show afterL bodyI (after condOps (Wk m k c)) main_v141_4 = _
  rw [trip_keep, at_mat, at_iota, at_idx]

/-- The comparison reads one exactly below the bound. -/
theorem pred_iff (k : ℕ) (hk : k ≤ 2000) : (IntOp.cmpi .slt (BitVec.ofNat 32 k) 2000#32 = 1#1 ↔ k < 2000) := by
  have h1 : (BitVec.ofNat 32 k).toInt = k := by
    rw [BitVec.toInt_eq_toNat_of_lt] <;> rw [BitVec.toNat_ofNat] <;> omega
  have h2 : (2000#32).toInt = 2000 := by decide
  have h : (BitVec.ofNat 32 k).slt 2000#32 = decide (k < 2000) := by
    rw [BitVec.slt, h1, h2]; simp
  simp only [IntOp.cmpi, h]
  by_cases hlt : k < 2000 <;> simp [hlt]

local notation "𝕄" => MT nD τ sig Unit (Elt F) ℕ (Option PUnit) ℕ

set_option backward.isDefEq.respectTransparency.types false in
/-- The condition's run. -/
theorem cond_spec : CondSpec pcfgs defs₀ loops main_while0_cond condOps bodyI (entryContents preI m) 2000 := by
  intro k hk c bd
  simp only [main_while0_cond, bind_pure]
  rw [wp_bind]
  iintro H
  iapply (wp_hlo_within _ (c : Thread nD τ) bd Set.univ (Pipeline.sub_ucRefs _ (nullary_bufs_sub _ _ _))) $$ H
  iintro H
  rw [wp_ret]; imodintro
  iapply (wp_hlo_within _ (c : Thread nD τ) bd Set.univ (Pipeline.sub_ucRefs _ (binary_bufs_sub _ _ _ _ _ _ _))) $$ H
  iintro H
  rw [HostLoop.elt_apply, wp_ret]
  imodintro
  isplitr
  · ipureintro
    have hI : (nullary main_while0c_c_33 (constantI S_ 32 2000#32) : HloOp τ sig (Elt F)).result (Wk m k c) main_v141_2 = (fun _ => BitVec.ofNat 32 k : IVec S_ 32) := by
      rw [nullary_result_ne _ _ _ _ (by decide), at_ctr]
    have hC : (nullary main_while0c_c_33 (constantI S_ 32 2000#32) : HloOp τ sig (Elt F)).result (Wk m k c) main_while0c_c_33 = (fun _ => 2000#32 : IVec S_ 32) := by
      rw [nullary_result]; rfl
    show IntOp.cmpi .slt (HloOp.result _ (Wk m k c) main_v141_2 HostLoop.idx0) (HloOp.result _ (Wk m k c) main_while0c_c_33 HostLoop.idx0) = 1#1 ↔ k < 2000
    rw [hI, hC]
    exact pred_iff k hk
  · rw [condOps, after_cons, after_cons, after_nil]
    iexact H

/-- The run: every buffer ends at the folded contents. -/
theorem run_main (ρ : Dev nD → PrngReg) :
    θ_run defs (onTc (τ := τ) (main (F := F))) ⟨m, fun _ => 0, ρ⟩ (fun r => ∀ (c : Dev nD) (b : Ref sig .tc), (Proc.devRef .tc b : DevRef τ sig).isScoped = false →
      r.2.mem ((c.tc : Thread nD τ).loc b) = finalContents condOps preI bodyI postI 2000 m c (Proc.devRef .tc b)) :=
  run_loop pcfgs defs₀ loops main 0 main_while0_cond main_while0_body rfl preI bodyI postI condOps plain_pre plain_body plain_post
    main_chain body_chain 2000 m ρ (cond_spec m)

theorem pre_main_arg0 (W : Valuation τ sig (Elt F)) : afterL (preI) W main_arg0 = W main_arg0 := by
  rw [afterL_eq_after_flatten]
  exact StableHlo.after_of_forall_not_mem (b := Proc.devRef .tc main_arg0) _ _ (List.forall_iff_forall_mem.mp (by
    simp only [pre0, pre1, pre2, pre3, pre4, pre5, pre6, pre7, pre8, pre9, pre10, pre11, pre12, pre13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem post_main_arg0 (W : Valuation τ sig (Elt F)) : afterL (postI) W main_arg0 = W main_arg0 := by
  rw [afterL_eq_after_flatten]
  exact StableHlo.after_of_forall_not_mem (b := Proc.devRef .tc main_arg0) _ _ (List.forall_iff_forall_mem.mp (by
    simp only [post0, post1, post2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem trip_main_arg0 (W : Valuation τ sig (Elt F)) : afterL (condOps :: bodyI) W main_arg0 = W main_arg0 := by
  rw [afterL_eq_after_flatten]
  exact StableHlo.after_of_forall_not_mem (b := Proc.devRef .tc main_arg0) _ _ (List.forall_iff_forall_mem.mp (by
    simp only [condOps, trip0, trip1, trip2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem at_main_arg0 (c : Dev nD) : ∀ k, Wk m k c main_arg0 = m ((c : Thread nD τ).loc main_arg0)
  | 0 => pre_main_arg0 _
  | k + 1 => (trip_main_arg0 (Wk m k c)).trans (at_main_arg0 c k)

theorem final_main_arg0 (c : Dev nD) : finalContents condOps preI bodyI postI 2000 m c main_arg0 = m ((c : Thread nD τ).loc main_arg0) := by
  unfold finalContents
  rw [post_main_arg0]
  have h : after condOps (Wk m 2000 c) main_arg0 = Wk m 2000 c main_arg0 := by after_results_simp
  exact h.trans (at_main_arg0 m c 2000)

theorem pre_main_arg1 (W : Valuation τ sig (Elt F)) : afterL (preI) W main_arg1 = W main_arg1 := by
  rw [afterL_eq_after_flatten]
  exact StableHlo.after_of_forall_not_mem (b := Proc.devRef .tc main_arg1) _ _ (List.forall_iff_forall_mem.mp (by
    simp only [pre0, pre1, pre2, pre3, pre4, pre5, pre6, pre7, pre8, pre9, pre10, pre11, pre12, pre13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem post_main_arg1 (W : Valuation τ sig (Elt F)) : afterL (postI) W main_arg1 = W main_arg1 := by
  rw [afterL_eq_after_flatten]
  exact StableHlo.after_of_forall_not_mem (b := Proc.devRef .tc main_arg1) _ _ (List.forall_iff_forall_mem.mp (by
    simp only [post0, post1, post2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem trip_main_arg1 (W : Valuation τ sig (Elt F)) : afterL (condOps :: bodyI) W main_arg1 = W main_arg1 := by
  rw [afterL_eq_after_flatten]
  exact StableHlo.after_of_forall_not_mem (b := Proc.devRef .tc main_arg1) _ _ (List.forall_iff_forall_mem.mp (by
    simp only [condOps, trip0, trip1, trip2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem at_main_arg1 (c : Dev nD) : ∀ k, Wk m k c main_arg1 = m ((c : Thread nD τ).loc main_arg1)
  | 0 => pre_main_arg1 _
  | k + 1 => (trip_main_arg1 (Wk m k c)).trans (at_main_arg1 c k)

theorem final_main_arg1 (c : Dev nD) : finalContents condOps preI bodyI postI 2000 m c main_arg1 = m ((c : Thread nD τ).loc main_arg1) := by
  unfold finalContents
  rw [post_main_arg1]
  have h : after condOps (Wk m 2000 c) main_arg1 = Wk m 2000 c main_arg1 := by after_results_simp
  exact h.trans (at_main_arg1 m c 2000)

theorem pre_main_arg2 (W : Valuation τ sig (Elt F)) : afterL (preI) W main_arg2 = W main_arg2 := by
  rw [afterL_eq_after_flatten]
  exact StableHlo.after_of_forall_not_mem (b := Proc.devRef .tc main_arg2) _ _ (List.forall_iff_forall_mem.mp (by
    simp only [pre0, pre1, pre2, pre3, pre4, pre5, pre6, pre7, pre8, pre9, pre10, pre11, pre12, pre13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem post_main_arg2 (W : Valuation τ sig (Elt F)) : afterL (postI) W main_arg2 = W main_arg2 := by
  rw [afterL_eq_after_flatten]
  exact StableHlo.after_of_forall_not_mem (b := Proc.devRef .tc main_arg2) _ _ (List.forall_iff_forall_mem.mp (by
    simp only [post0, post1, post2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem trip_main_arg2 (W : Valuation τ sig (Elt F)) : afterL (condOps :: bodyI) W main_arg2 = W main_arg2 := by
  rw [afterL_eq_after_flatten]
  exact StableHlo.after_of_forall_not_mem (b := Proc.devRef .tc main_arg2) _ _ (List.forall_iff_forall_mem.mp (by
    simp only [condOps, trip0, trip1, trip2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.unaryIndexed_writes, StableHlo.binaryIndexed_writes, Finset.mem_singleton]
    repeat' apply And.intro
    all_goals exact StableHlo.devRef_ne_of_ne (by decide)))

theorem at_main_arg2 (c : Dev nD) : ∀ k, Wk m k c main_arg2 = m ((c : Thread nD τ).loc main_arg2)
  | 0 => pre_main_arg2 _
  | k + 1 => (trip_main_arg2 (Wk m k c)).trans (at_main_arg2 c k)

theorem final_main_arg2 (c : Dev nD) : finalContents condOps preI bodyI postI 2000 m c main_arg2 = m ((c : Thread nD τ).loc main_arg2) := by
  unfold finalContents
  rw [post_main_arg2]
  have h : after condOps (Wk m 2000 c) main_arg2 = Wk m 2000 c main_arg2 := by after_results_simp
  exact h.trans (at_main_arg2 m c 2000)

/-- The frame: the arguments end as launched, and there is no semaphore. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0 rfl).trans (final_main_arg0 m c),
    (h c main_arg1 rfl).trans (final_main_arg1 m c), (h c main_arg2 rfl).trans (final_main_arg2 m c)⟩,
    sem_eq_zero_of_no_sems rfl r.2⟩) (run_main m ρ)

end Cert.Proof.Ref

end
-- ==== Proof.RefDec.lean ====
/- The reference's decoded and ranked boxes: the host lines up to the clipped boxes, entry by entry. -/
module

public import proofs.«01_k».proof.Proof.Final
public import proofs.«01_k».proof.Proof.RefRun
public import Idealize.ShloMosaic.Lib.Pointwise
public import Idealize.ShloMosaic.Lib.WordCmp
public import Idealize.ShloMosaic.Lib.Routing.Ops

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo

/-- The lower edge of a decoded side before it is clipped. -/
def ulo (x1 x2 d dw : EReal) : EReal :=
  d * (x2 - x1) + (x1 + Ideal.ofBits .f32 0x3F000000#32 * (x2 - x1))
    - Ideal.ofBits .f32 0x3F000000#32 * (Ideal.exp (min dw (Ideal.ofBits .f32 0x40845349#32)) * (x2 - x1))

/-- The upper edge before it is clipped. -/
def uhi (x1 x2 d dw : EReal) : EReal :=
  d * (x2 - x1) + (x1 + Ideal.ofBits .f32 0x3F000000#32 * (x2 - x1))
    + Ideal.ofBits .f32 0x3F000000#32 * (Ideal.exp (min dw (Ideal.ofBits .f32 0x40845349#32)) * (x2 - x1))

/-- A coordinate clipped to the image. -/
def clip (x : EReal) : EReal := min (Ideal.ofBits .f32 0x44800000#32) (max 0 x)

theorem clip_ulo (x1 x2 d dw : EReal) : clip (ulo x1 x2 d dw) = clo x1 x2 d dw := rfl

theorem clip_uhi (x1 x2 d dw : EReal) : clip (uhi x1 x2 d dw) = chi x1 x2 d dw := rfl

variable (W : Valuation τ sig (Elt Ideal))

/-- The anchors. -/
abbrev wA : Vec Ideal S20000x4 .f32 := W main_arg0
/-- The logits. -/
abbrev wL : Vec Ideal S20000 .f32 := W main_arg1
/-- The deltas. -/
abbrev wD : Vec Ideal S20000x4 .f32 := W main_arg2

theorem v42_at (k : Fin 20000) : (after pre0 W main_v42 : Vec Ideal S20000 .f32) (ix1 k)
    = ulo (wA W (ix2 k 0)) (wA W (ix2 k 2)) (wD W (ix2 k 0)) (wD W (ix2 k 2)) := by
  after_results_simp
  pointwise
  rfl

theorem v45_at (k : Fin 20000) : (after pre0 W main_v45 : Vec Ideal S20000 .f32) (ix1 k)
    = ulo (wA W (ix2 k 1)) (wA W (ix2 k 3)) (wD W (ix2 k 1)) (wD W (ix2 k 3)) := by
  after_results_simp
  pointwise
  rfl

theorem v48_at (k : Fin 20000) : (after pre0 W main_v48 : Vec Ideal S20000 .f32) (ix1 k)
    = uhi (wA W (ix2 k 0)) (wA W (ix2 k 2)) (wD W (ix2 k 0)) (wD W (ix2 k 2)) := by
  after_results_simp
  pointwise
  rfl

theorem v51_at (k : Fin 20000) : (after pre0 W main_v51 : Vec Ideal S20000 .f32) (ix1 k)
    = uhi (wA W (ix2 k 1)) (wA W (ix2 k 3)) (wD W (ix2 k 1)) (wD W (ix2 k 3)) := by
  after_results_simp
  pointwise
  rfl

theorem pre0_arg1 : after pre0 W main_arg1 = W main_arg1 := by after_results_simp

/-- The sorted logits' positions. -/
abbrev ixs (L : Vec Ideal S20000 .f32) : IVec S2000 32 :=
  (Host.topK S2000 0 (FloatOps.cmpfTotal (F := Ideal) (φ := .f32) .gt) L sliceFits_S20000_S2000).2

/-- The positions made nonnegative, as the start indices of a gather. -/
abbrev wrapped (L : Vec Ideal S20000 .f32) : IVec S2000x1 32 :=
  broadcastInDim S2000x1 ![0] bcast_S2000_S2000x1_0
    (select (cmpi .slt (ixs L) (broadcastInDim S2000 ![] bcast_S_S2000 (constantI S_ 32 0#32)))
      (addi (ixs L) (broadcastInDim S2000 ![] bcast_S_S2000 (constantI S_ 32 20000#32))) (ixs L))

theorem ixs_at (L : Vec Ideal S20000 .f32) (k : Fin 2000) : ixs L (ix1 k) = BitVec.ofNat 32 (pos L k).val := by
  unfold ixs pos
  rw [topK_at_snd]

theorem wrapped_at (L : Vec Ideal S20000 .f32) (k : Fin 2000) :
    wrapped L (ix2 k 0) = BitVec.ofNat 32 (pos L k).val := by
  pointwise
  rw [ixs_at, WordCmp.cmpi_slt_ofNat (by omega) (by norm_num)]
  rfl

theorem rows_at (X : Vec Ideal S20000x4 .f32) (L : Vec Ideal S20000 .f32) (k : Fin 2000) (q : Fin 4) :
    Host.gather gather_S20000x4_S2000x1_S2000x4_1_0_n_n_0_1_14 X (wrapped L) (ix2 k q) = X (ix2 (pos L k) q) :=
  Routing.gather_row gather_S20000x4_S2000x1_S2000x4_1_0_n_n_0_1_14 rfl rfl rfl rfl rfl X (wrapped L) k q (pos L k)
    (wrapped_at L k) (by norm_num)

/-- Four columns side by side. -/
abbrev cols (a b c d : Vec Ideal S20000 .f32) : Vec Ideal S20000x4 .f32 :=
  concatenate S20000x4 1 [⟨S20000x1, broadcastInDim S20000x1 ![0] bcast_S20000_S20000x1_0 a⟩,
    ⟨S20000x1, broadcastInDim S20000x1 ![0] bcast_S20000_S20000x1_0 b⟩,
    ⟨S20000x1, broadcastInDim S20000x1 ![0] bcast_S20000_S20000x1_0 c⟩,
    ⟨S20000x1, broadcastInDim S20000x1 ![0] bcast_S20000_S20000x1_0 d⟩]
    concatenates_S20000x1_S20000x1_S20000x1_S20000x1_S20000x4_d1

theorem cat4 {α : Type} {s t : Shape} {p : Fin t.rank} {a b c d a' b' c' d' : s.Idx → α} (h)
    (ha : a = a') (hb : b = b') (hc : c = c') (hd : d = d') :
    concatenate t p [⟨s, a⟩, ⟨s, b⟩, ⟨s, c⟩, ⟨s, d⟩] h = concatenate t p [⟨s, a'⟩, ⟨s, b'⟩, ⟨s, c'⟩, ⟨s, d'⟩] h := by
  subst ha hb hc hd
  rfl

theorem gather_congr {x x' : Vec Ideal S20000x4 .f32} {i i' : IVec S2000x1 32} (hx : x = x') (hi : i = i') :
    Host.gather gather_S20000x4_S2000x1_S2000x4_1_0_n_n_0_1_14 x i
      = Host.gather gather_S20000x4_S2000x1_S2000x4_1_0_n_n_0_1_14 x' i' := by
  rw [hx, hi]

theorem v63_eq : after pre1 W main_v63 = Host.gather gather_S20000x4_S2000x1_S2000x4_1_0_n_n_0_1_14
    (cols (W main_v42) (W main_v45) (W main_v48) (W main_v51)) (wrapped (wL W)) := by
  after_results_simp
  refine gather_congr ?_ rfl
  dsimp only [Matrix.cons_val]
  refine cat4 _ ?_ ?_ ?_ ?_ <;> after_results_simp

theorem cols_at (a b c d : Vec Ideal S20000 .f32) (k : Fin 20000) (q : Fin 4) :
    cols a b c d (ix2 k q) = ![a (ix1 k), b (ix1 k), c (ix1 k), d (ix1 k)] q := by
  fin_cases q <;> pointwise <;> rfl

theorem v63_at (k : Fin 2000) (q : Fin 4) : (after pre1 W main_v63 : Vec Ideal S2000x4 .f32) (ix2 k q)
    = ![(W main_v42 : Vec Ideal S20000 .f32) (ix1 (pos (wL W) k)), (W main_v45 : Vec Ideal S20000 .f32) (ix1 (pos (wL W) k)),
        (W main_v48 : Vec Ideal S20000 .f32) (ix1 (pos (wL W) k)), (W main_v51 : Vec Ideal S20000 .f32) (ix1 (pos (wL W) k))] q := by
  rw [v63_eq, rows_at, cols_at]

/-- Running two lists is running one after the other. -/
theorem after_app (l₁ l₂ : List (HloOp τ sig (Elt Ideal))) (V : Valuation τ sig (Elt Ideal)) :
    after (l₁ ++ l₂) V = after l₂ (after l₁ V) := by
  induction l₁ generalizing V with
  | nil => rfl
  | cons a l ih => exact ih _

theorem pre1_split : after pre1 W = after (pre1.drop 15) (after (pre1.take 15) W) := by
  rw [← after_app, List.take_append_drop]

theorem v65_at (k : Fin 2000) : (after pre1 W main_v65 : Vec Ideal S2000 .f32) (ix1 k)
    = (after pre1 W main_v63 : Vec Ideal S2000x4 .f32) (ix2 k 0) := by
  rw [pre1_split]
  generalize after (pre1.take 15) W = V
  simp only [List.drop]
  after_results_simp
  pointwise

theorem values_at (k : Fin 2000) : (after pre1 W main_values : Vec Ideal S2000 .f32) (ix1 k)
    = wL W (ix1 (pos (wL W) k)) := by
  after_results_simp
  exact topK_at_fst (by norm_num) _ _ _ k

/-- A buffer of numbers, as a function. -/
abbrev fv {s : Shape} (x : Vec Ideal s .f32) : s.Idx → EReal := x

theorem clip_word (x : EReal) :
    min (Ideal.ofBits .f32 0x44800000#32) (max (Ideal.ofBits .f32 0x00000000#32) x) = clip x := by
  rw [Ideal.ofBits_zero]; rfl

theorem v66_at (k : Fin 2000) : fv (s := S2000) (after pre2 (after pre1 W) main_v66) (ix1 k)
    = clip (fv (s := S2000) (after pre1 W main_v65) (ix1 k)) := by
  have h8 : after pre1 W main_cst_8 = constant (F := Ideal) S_ .f32 0x00000000#32 := by after_results_simp
  have h9 : after pre1 W main_cst_9 = constant (F := Ideal) S_ .f32 0x44800000#32 := by after_results_simp
  revert h8 h9
  generalize after pre1 W = V
  intro h8 h9
  after_results_simp
  simp only [StableHlo.TRef.ofBuf_toBuf, StableHlo.TRef.toBuf, StableHlo.TRef.ofBuf, cast_cast, cast_eq]
  rw [h8, h9]
  pointwise
  exact clip_word _

theorem v69_at (k : Fin 2000) : fv (s := S2000) (after pre4 (after pre3 W) main_v69) (ix1 k)
    = clip (fv (s := S2000x4) (W main_v63) (ix2 k 1)) := by
  after_results_simp
  simp only [StableHlo.TRef.ofBuf_toBuf, StableHlo.TRef.toBuf, StableHlo.TRef.ofBuf, cast_cast, cast_eq]
  pointwise
  exact clip_word _

theorem v72_at (k : Fin 2000) : fv (s := S2000) (after pre6 (after pre5 W) main_v72) (ix1 k)
    = clip (fv (s := S2000x4) (W main_v63) (ix2 k 2)) := by
  after_results_simp
  simp only [StableHlo.TRef.ofBuf_toBuf, StableHlo.TRef.toBuf, StableHlo.TRef.ofBuf, cast_cast, cast_eq]
  pointwise
  exact clip_word _

theorem v75_at (k : Fin 2000) : fv (s := S2000) (after pre8 (after pre7 W) main_v75) (ix1 k)
    = clip (fv (s := S2000x4) (W main_v63) (ix2 k 3)) := by
  after_results_simp
  simp only [StableHlo.TRef.ofBuf_toBuf, StableHlo.TRef.toBuf, StableHlo.TRef.ofBuf, cast_cast, cast_eq]
  pointwise
  exact clip_word _

/-- The contents after the clips. -/
abbrev W8 : Valuation τ sig (Elt Ideal) :=
  after pre8 (after pre7 (after pre6 (after pre5 (after pre4 (after pre3 (after pre2 (after pre1 (after pre0 W))))))))

theorem W8_values : W8 W main_values = after pre1 (after pre0 W) main_values := by
  unfold W8
  generalize after pre1 (after pre0 W) = V
  after_results_simp

theorem p2_v63 (V : Valuation τ sig (Elt Ideal)) : after pre2 V main_v63 = V main_v63 := by after_results_simp
theorem p4_v63 (V : Valuation τ sig (Elt Ideal)) : after pre4 (after pre3 V) main_v63 = V main_v63 := by after_results_simp
theorem p6_v63 (V : Valuation τ sig (Elt Ideal)) : after pre6 (after pre5 V) main_v63 = V main_v63 := by after_results_simp
theorem p8_v66 (V : Valuation τ sig (Elt Ideal)) :
    after pre8 (after pre7 (after pre6 (after pre5 (after pre4 (after pre3 V))))) main_v66 = V main_v66 := by
  after_results_simp
theorem p8_v69 (V : Valuation τ sig (Elt Ideal)) :
    after pre8 (after pre7 (after pre6 (after pre5 V))) main_v69 = V main_v69 := by after_results_simp
theorem p8_v72 (V : Valuation τ sig (Elt Ideal)) : after pre8 (after pre7 V) main_v72 = V main_v72 := by
  after_results_simp

/-- The ranked rows before the clip. -/
theorem raw_at (k : Fin 2000) (q : Fin 4) : fv (s := S2000x4) (after pre1 (after pre0 W) main_v63) (ix2 k q)
    = ![ulo (wA W (ix2 (pos (wL W) k) 0)) (wA W (ix2 (pos (wL W) k) 2)) (wD W (ix2 (pos (wL W) k) 0)) (wD W (ix2 (pos (wL W) k) 2)),
        ulo (wA W (ix2 (pos (wL W) k) 1)) (wA W (ix2 (pos (wL W) k) 3)) (wD W (ix2 (pos (wL W) k) 1)) (wD W (ix2 (pos (wL W) k) 3)),
        uhi (wA W (ix2 (pos (wL W) k) 0)) (wA W (ix2 (pos (wL W) k) 2)) (wD W (ix2 (pos (wL W) k) 0)) (wD W (ix2 (pos (wL W) k) 2)),
        uhi (wA W (ix2 (pos (wL W) k) 1)) (wA W (ix2 (pos (wL W) k) 3)) (wD W (ix2 (pos (wL W) k) 1)) (wD W (ix2 (pos (wL W) k) 3))] q := by
  refine (v63_at (after pre0 W) k q).trans ?_
  have h : wL (after pre0 W) = wL W := pre0_arg1 W
  rw [h, v42_at, v45_at, v48_at, v51_at]

theorem w8_v66 (k : Fin 2000) : fv (s := S2000) (W8 W main_v66) (ix1 k) = box (wA W) (wD W) (wL W) k 0 := by
  unfold W8
  rw [p8_v66]
  refine (v66_at (after pre0 W) k).trans ?_
  refine (congrArg clip ((v65_at (after pre0 W) k).trans (raw_at W k 0))).trans ?_
  rfl

theorem w8_v69 (k : Fin 2000) : fv (s := S2000) (W8 W main_v69) (ix1 k) = box (wA W) (wD W) (wL W) k 1 := by
  unfold W8
  rw [p8_v69]
  refine (v69_at _ k).trans ?_
  rw [p2_v63]
  exact congrArg clip (raw_at W k 1)

theorem w8_v72 (k : Fin 2000) : fv (s := S2000) (W8 W main_v72) (ix1 k) = box (wA W) (wD W) (wL W) k 2 := by
  unfold W8
  rw [p8_v72]
  refine (v72_at _ k).trans ?_
  rw [p4_v63, p2_v63]
  exact congrArg clip (raw_at W k 2)

theorem w8_v75 (k : Fin 2000) : fv (s := S2000) (W8 W main_v75) (ix1 k) = box (wA W) (wD W) (wL W) k 3 := by
  unfold W8
  refine (v75_at _ k).trans ?_
  rw [p6_v63, p4_v63, p2_v63]
  exact congrArg clip (raw_at W k 3)

theorem w8_values (k : Fin 2000) : fv (s := S2000) (W8 W main_values) (ix1 k) = wL W (ix1 (pos (wL W) k)) := by
  rw [W8_values]
  refine (values_at (after pre0 W) k).trans ?_
  have h : wL (after pre0 W) = wL W := pre0_arg1 W
  rw [h]

end Cert.Proof.Ref
-- ==== Proof.RefMat.lean ====
/- The reference's boxes, scores and overlap matrix, entry by entry, as the loop finds them. -/
module

public import proofs.«01_k».proof.Proof.RefDec

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo

variable (W : Valuation τ sig (Elt Ideal))

theorem pre9_split : after pre9 W = after (pre9.drop 5) (after (pre9.take 5) W) := by
  rw [← after_app, List.take_append_drop]

/-- Four ranked columns side by side. -/
abbrev cols' (a b c d : Vec Ideal S2000 .f32) : Vec Ideal S2000x4 .f32 :=
  concatenate S2000x4 1 [⟨S2000x1, broadcastInDim S2000x1 ![0] bcast_S2000_S2000x1_0 a⟩,
    ⟨S2000x1, broadcastInDim S2000x1 ![0] bcast_S2000_S2000x1_0 b⟩,
    ⟨S2000x1, broadcastInDim S2000x1 ![0] bcast_S2000_S2000x1_0 c⟩,
    ⟨S2000x1, broadcastInDim S2000x1 ![0] bcast_S2000_S2000x1_0 d⟩]
    concatenates_S2000x1_S2000x1_S2000x1_S2000x1_S2000x4_d1

theorem cols'_at (a b c d : Vec Ideal S2000 .f32) (k : Fin 2000) (q : Fin 4) :
    cols' a b c d (ix2 k q) = ![a (ix1 k), b (ix1 k), c (ix1 k), d (ix1 k)] q := by
  fin_cases q <;> pointwise <;> rfl

theorem v80_eq : after pre9 W main_v80 = cols' (W main_v66) (W main_v69) (W main_v72) (W main_v75) := by
  after_results_simp
  dsimp only [Matrix.cons_val]
  refine cat4 _ ?_ ?_ ?_ ?_ <;> after_results_simp

/-- A mask, as a function. -/
abbrev mv {s : Shape} (x : IVec s 1) : s.Idx → BitVec 1 := x

theorem and_bool (a b : Bool) : IntOp.andi (BitVec.ofBool a) (BitVec.ofBool b) = BitVec.ofBool (a && b) := by
  cases a <;> cases b <;> rfl

theorem v95_at (k : Fin 2000) : mv (s := S2000) (after pre9 W main_v95) (ix1 k)
    = BitVec.ofBool (vd (fun q => fv (s := S2000x4) (after pre9 W main_v80) (ix2 k q))) := by
  rw [pre9_split]
  generalize after (pre9.take 5) W = V
  simp only [List.drop]
  after_results_simp
  pointwise
  exact and_bool _ _

theorem cst18 : after pre9 W main_cst_18 = constant (F := Ideal) S_ .f32 0xD01502F9#32 := by after_results_simp

theorem v96_at (k : Fin 2000) : fv (s := S2000) (after pre10 (after pre9 W) main_v96) (ix1 k)
    = Scalar.select (mv (s := S2000) (after pre9 W main_v95) (ix1 k)) (fv (s := S2000) (W main_values) (ix1 k)) NEG := by
  have h18 := cst18 W
  have hv : after pre9 W main_values = W main_values := by after_results_simp
  rw [← hv]
  revert h18
  generalize after pre9 W = V
  intro h18
  after_results_simp
  simp only [StableHlo.TRef.ofBuf_toBuf, StableHlo.TRef.toBuf, StableHlo.TRef.ofBuf, cast_cast, cast_eq]
  rw [h18]
  pointwise
  rfl

theorem v107_at (k : Fin 2000) : fv (s := S2000) (after pre11 W main_v107) (ix1 k)
    = area (fun q => fv (s := S2000x4) (W main_v80) (ix2 k q)) := by
  after_results_simp
  pointwise
  rfl

theorem v122_at (i j : Fin 2000) (q : Fin 2) : fv (s := S2000x2000x2) (after pre11 W main_v122) (ix3 i j q)
    = min (fv (s := S2000x4) (W main_v80) (ix2 i ⟨2 + q.val, by omega⟩)) (fv (s := S2000x4) (W main_v80) (ix2 j ⟨2 + q.val, by omega⟩))
      - max (fv (s := S2000x4) (W main_v80) (ix2 i ⟨q.val, by omega⟩)) (fv (s := S2000x4) (W main_v80) (ix2 j ⟨q.val, by omega⟩)) := by
  after_results_simp
  pointwise

theorem v123_at (i j : Fin 2000) (q : Fin 2) : fv (s := S2000x2000x2) (after pre12 (after pre11 W) main_v123) (ix3 i j q)
    = max (fv (s := S2000x2000x2) (after pre11 W main_v122) (ix3 i j q)) 0 := by
  have h : after pre11 W main_cst_19 = constant (F := Ideal) S_ .f32 0x00000000#32 := by after_results_simp
  revert h
  generalize after pre11 W = V
  intro h
  after_results_simp
  simp only [StableHlo.TRef.ofBuf_toBuf, StableHlo.TRef.toBuf, StableHlo.TRef.ofBuf, cast_cast, cast_eq]
  rw [h]
  pointwise
  refine (max_comm _ _).trans ?_
  show max _ (Ideal.ofBits .f32 0x00000000#32) = _
  rw [Ideal.ofBits_zero]

theorem m_at (i j : Fin 2000) : mv (s := S2000x2000) (after pre13 W main_v141_0) (ix2 i j)
    = BitVec.ofBool (decide (Ideal.ofBits .f32 0x3F333333#32
      < Ideal.div (fv (s := S2000x2000x2) (W main_v123) (ix3 i j 0) * fv (s := S2000x2000x2) (W main_v123) (ix3 i j 1))
        (max (fv (s := S2000) (W main_v107) (ix1 i) + fv (s := S2000) (W main_v107) (ix1 j)
          - fv (s := S2000x2000x2) (W main_v123) (ix3 i j 0) * fv (s := S2000x2000x2) (W main_v123) (ix3 i j 1))
          (Ideal.ofBits .f32 0x358637BD#32)))) := by
  after_results_simp
  unfold mv
  simp only [id_eq]
  pointwise

theorem v141_4_eq : after pre13 W main_v141_4 = W main_v95 := by
  after_results_simp
  rfl

theorem p12_v107 : after pre12 W main_v107 = W main_v107 := by after_results_simp
theorem p13_v80 : after pre13 (after pre12 (after pre11 (after pre10 W))) main_v80 = W main_v80 := by after_results_simp
theorem p13_v96 : after pre13 (after pre12 (after pre11 W)) main_v96 = W main_v96 := by after_results_simp
theorem p12_v95 : after pre12 (after pre11 (after pre10 W)) main_v95 = W main_v95 := by after_results_simp
theorem p10_v80 : after pre10 W main_v80 = W main_v80 := by after_results_simp

/-- The contents the loop finds. -/
abbrev W14 : Valuation τ sig (Elt Ideal) :=
  after pre13 (after pre12 (after pre11 (after pre10 (after pre9 (W8 W)))))

theorem boxes_at (k : Fin 2000) (q : Fin 4) :
    fv (s := S2000x4) (after pre9 (W8 W) main_v80) (ix2 k q) = box (wA W) (wD W) (wL W) k q := by
  unfold fv
  rw [v80_eq, cols'_at]
  fin_cases q
  · exact w8_v66 W k
  · exact w8_v69 W k
  · exact w8_v72 W k
  · exact w8_v75 W k

theorem boxes_fn (k : Fin 2000) :
    (fun q => fv (s := S2000x4) (after pre9 (W8 W) main_v80) (ix2 k q)) = box (wA W) (wD W) (wL W) k :=
  funext (boxes_at W k)

theorem w14_boxes (k : Fin 2000) (q : Fin 4) :
    fv (s := S2000x4) (W14 W main_v80) (ix2 k q) = box (wA W) (wD W) (wL W) k q := by
  unfold W14
  rw [p13_v80]
  exact boxes_at W k q

theorem valid_at (k : Fin 2000) : mv (s := S2000) (after pre9 (W8 W) main_v95) (ix1 k)
    = BitVec.ofBool (vd (box (wA W) (wD W) (wL W) k)) := by
  rw [v95_at, boxes_fn]

theorem w14_keep (k : Fin 2000) : mv (s := S2000) (W14 W main_v141_4) (ix1 k)
    = BitVec.ofBool (vd (box (wA W) (wD W) (wL W) k)) := by
  unfold W14
  rw [v141_4_eq, p12_v95]
  exact valid_at W k

theorem w14_scores (k : Fin 2000) : fv (s := S2000) (W14 W main_v96) (ix1 k)
    = Scalar.select (BitVec.ofBool (vd (box (wA W) (wD W) (wL W) k))) (wL W (ix1 (pos (wL W) k))) NEG := by
  unfold W14
  rw [p13_v96]
  refine (v96_at (W8 W) k).trans ?_
  rw [valid_at, w8_values]

theorem ov_eq (p q : Fin 4 → EReal) : decide (Ideal.ofBits .f32 0x3F333333#32
      < Ideal.div (max (min (p 2) (q 2) - max (p 0) (q 0)) 0 * max (min (p 3) (q 3) - max (p 1) (q 1)) 0)
        (max (area p + area q - max (min (p 2) (q 2) - max (p 0) (q 0)) 0 * max (min (p 3) (q 3) - max (p 1) (q 1)) 0)
          (Ideal.ofBits .f32 0x358637BD#32))) = ov p q := rfl

theorem inter_at (i j : Fin 2000) (q : Fin 2) :
    fv (s := S2000x2000x2) (after pre12 (after pre11 (after pre10 (after pre9 (W8 W)))) main_v123) (ix3 i j q)
      = max (min (box (wA W) (wD W) (wL W) i ⟨2 + q.val, by omega⟩) (box (wA W) (wD W) (wL W) j ⟨2 + q.val, by omega⟩)
        - max (box (wA W) (wD W) (wL W) i ⟨q.val, by omega⟩) (box (wA W) (wD W) (wL W) j ⟨q.val, by omega⟩)) 0 := by
  rw [v123_at, v122_at, p10_v80, boxes_at, boxes_at, boxes_at, boxes_at]

theorem area_at (k : Fin 2000) :
    fv (s := S2000) (after pre12 (after pre11 (after pre10 (after pre9 (W8 W)))) main_v107) (ix1 k)
      = area (box (wA W) (wD W) (wL W) k) := by
  rw [p12_v107]
  refine (v107_at _ k).trans ?_
  rw [p10_v80, boxes_fn]

theorem w14_mat (i j : Fin 2000) : mv (s := S2000x2000) (W14 W main_v141_0) (ix2 i j)
    = BitVec.ofBool (ov (box (wA W) (wD W) (wL W) i) (box (wA W) (wD W) (wL W) j)) := by
  unfold W14
  refine (m_at _ i j).trans ?_
  rw [inter_at, inter_at, area_at, area_at]
  exact congrArg BitVec.ofBool (ov_eq _ _)

end Cert.Proof.Ref
-- ==== Proof.RefKeep.lean ====
/- The reference's loop: its mask after any number of trips is the greedy pass after as many steps. -/
module

public import proofs.«01_k».proof.Proof.RefMat

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo

/-- A trip's number as an index word is itself. -/
theorem norm_word (k : ℕ) (hk : k < 2000) :
    (Scalar.select (IntOp.cmpi .slt (BitVec.ofNat 32 k) 0#32) (IntOp.addi (BitVec.ofNat 32 k) 2000#32) (BitVec.ofNat 32 k)).toInt
      = (k : ℤ) := by
  rw [show (0#32 : BitVec 32) = BitVec.ofNat 32 0 from rfl, WordCmp.cmpi_slt_ofNat (by omega) (by norm_num)]
  show (BitVec.ofNat 32 k).toInt = _
  rw [BitVec.toInt_eq_toNat_of_lt] <;> rw [BitVec.toNat_ofNat] <;> omega

theorem slice_one (x : IVec S2000 1) (start : Fin 1 → Int) (k : Fin 2000) (h : ∀ a, start a = (k.val : ℤ)) :
    shapeCast S_ (Host.dynamicSlice S1 x start sliceFits_S2000_S1) shapeCasts_S1_S_ ix0 = x (ix1 k) := by
  have hk : Shape.Slices S2000 (fun _ => k.val) S1 := ⟨rfl, fun a => by
    fin_cases a; show k.val + 1 ≤ 2000; omega⟩
  rw [WordCmp.dynamicSlice_eq_extract S1 x start _ (fun _ => k.val) hk h]
  pointwise

theorem slice_row (x : IVec S2000x2000 1) (start : Fin 2 → Int) (k j : Fin 2000) (h : ∀ a, start a = ((![k.val, 0] a : ℕ) : ℤ)) :
    shapeCast S2000 (Host.dynamicSlice S1x2000 x start sliceFits_S2000x2000_S1x2000) shapeCasts_S1x2000_S2000 (ix1 j)
      = x (ix2 k j) := by
  have hk : Shape.Slices S2000x2000 ![k.val, 0] S1x2000 := ⟨rfl, fun a => by
    fin_cases a
    · show k.val + 1 ≤ 2000; omega
    · show 0 + 2000 ≤ 2000; omega⟩
  rw [WordCmp.dynamicSlice_eq_extract S1x2000 x start _ ![k.val, 0] hk h]
  pointwise

theorem stepV_at (M : IVec S2000x2000 1) (kp : IVec S2000 1) (k j : Fin 2000) :
    stepV M (iotaInDim S2000 32 0) (fun _ => BitVec.ofNat 32 k.val) kp (ix1 j)
      = Scalar.select (kp (ix1 k)) (IntOp.andi (kp (ix1 j)) (~~~ (IntOp.andi (M (ix2 k j))
          (BitVec.ofBool (decide (k.val < j.val)))))) (kp (ix1 j)) := by
  unfold stepV
  have h1 := slice_one kp (fun a => BitVec.toInt (![select (cmpi .slt (fun _ => BitVec.ofNat 32 k.val : IVec S_ 32) (constantI S_ 32 0#32))
        (addi (fun _ => BitVec.ofNat 32 k.val) (constantI S_ 32 2000#32)) (fun _ => BitVec.ofNat 32 k.val)] a (Shape.Idx.first h_S_))) k
        (fun a => by fin_cases a; exact norm_word k.val k.isLt)
  have h2 := slice_row M (fun a => BitVec.toInt (![select (cmpi .slt (fun _ => BitVec.ofNat 32 k.val : IVec S_ 32) (constantI S_ 32 0#32))
          (addi (fun _ => BitVec.ofNat 32 k.val) (constantI S_ 32 2000#32)) (fun _ => BitVec.ofNat 32 k.val),
          select (cmpi .slt (constantI S_ 32 0#32) (constantI S_ 32 0#32))
            (addi (constantI S_ 32 0#32) (constantI S_ 32 2000#32)) (constantI S_ 32 0#32)] a (Shape.Idx.first h_S_))) k j
        (fun a => by
          fin_cases a
          · exact norm_word k.val k.isLt
          · rfl)
  revert h1 h2
  generalize shapeCast S_ (Host.dynamicSlice S1 kp _ _) _ = A
  generalize shapeCast S2000 (Host.dynamicSlice S1x2000 M _ _) _ = B
  intro h1 h2
  have h3 : IntOp.cmpi .sgt (BitVec.ofNat 32 j.val) (BitVec.ofNat 32 k.val) = BitVec.ofBool (decide (k.val < j.val)) :=
    WordCmp.cmpi_sgt_ofNat (by omega) (by omega)
  rw [← h1, ← h2, ← h3]
  pointwise

theorem step_bool (a b c d : Bool) :
    Scalar.select (BitVec.ofBool a) (IntOp.andi (BitVec.ofBool b) (~~~ (IntOp.andi (BitVec.ofBool c) (BitVec.ofBool d))))
      (BitVec.ofBool b) = BitVec.ofBool (b && !(a && c && d)) := by
  cases a <;> cases b <;> cases c <;> cases d <;> rfl

variable (m : (ℓ : Loc nD τ sig) → Buf (Elt Ideal) ℓ)

/-- The anchors of device `c`. -/
abbrev mA (c : Dev nD) : Vec Ideal S20000x4 .f32 := m ((c : Thread nD τ).loc main_arg0)
/-- Its logits. -/
abbrev mL (c : Dev nD) : Vec Ideal S20000 .f32 := m ((c : Thread nD τ).loc main_arg1)
/-- Its deltas. -/
abbrev mD (c : Dev nD) : Vec Ideal S20000x4 .f32 := m ((c : Thread nD τ).loc main_arg2)

theorem entry_W14 (c : Dev nD) : ∃ W : Valuation τ sig (Elt Ideal), entryContents preI m c = W14 W
    ∧ wA W = mA m c ∧ wL W = mL m c ∧ wD W = mD m c := by
  refine ⟨_, rfl, rfl, rfl, rfl⟩

theorem e_boxes (c : Dev nD) (k : Fin 2000) (q : Fin 4) :
    fv (s := S2000x4) (entryContents preI m c main_v80) (ix2 k q) = box (mA m c) (mD m c) (mL m c) k q := by
  obtain ⟨W, h, hA, hL, hD⟩ := entry_W14 m c
  rw [h, ← hA, ← hL, ← hD]
  exact w14_boxes W k q

theorem e_keep (c : Dev nD) (j : Fin 2000) : mv (s := S2000) (entryContents preI m c main_v141_4) (ix1 j)
    = BitVec.ofBool (vR (mA m c) (mD m c) (mL m c) j.val) := by
  obtain ⟨W, h, hA, hL, hD⟩ := entry_W14 m c
  rw [h, ← hA, ← hL, ← hD, vR, rk_val]
  exact w14_keep W j

theorem e_scores (c : Dev nD) (j : Fin 2000) : fv (s := S2000) (entryContents preI m c main_v96) (ix1 j)
    = Scalar.select (BitVec.ofBool (vR (mA m c) (mD m c) (mL m c) j.val)) (mL m c (ix1 (pos (mL m c) j))) NEG := by
  obtain ⟨W, h, hA, hL, hD⟩ := entry_W14 m c
  rw [h, ← hA, ← hL, ← hD, vR, rk_val]
  exact w14_scores W j

theorem e_mat (c : Dev nD) (i j : Fin 2000) : mv (s := S2000x2000) (entryContents preI m c main_v141_0) (ix2 i j)
    = BitVec.ofBool (sR (mA m c) (mD m c) (mL m c) i.val j.val) := by
  obtain ⟨W, h, hA, hL, hD⟩ := entry_W14 m c
  rw [h, ← hA, ← hL, ← hD, sR, rk_val, rk_val]
  exact w14_mat W i j

/-- The loop's mask is the greedy pass. -/
theorem keep_at (c : Dev nD) (j : Fin 2000) : ∀ k, k ≤ 2000 → mv (s := S2000) (Wk m k c main_v141_4) (ix1 j)
    = BitVec.ofBool (gseq (sR (mA m c) (mD m c) (mL m c)) (vR (mA m c) (mD m c) (mL m c)) k j.val) := by
  intro k
  induction k generalizing j with
  | zero => exact fun _ => e_keep m c j
  | succ k ih =>
    intro hk
    unfold mv
    rw [at_keep_succ]
    refine (stepV_at _ _ ⟨k, by omega⟩ j).trans ?_
    have hj := ih j (by omega)
    have hi := ih ⟨k, by omega⟩ (by omega)
    have hM := e_mat m c ⟨k, by omega⟩ j
    unfold mv at hj hi hM
    rw [hj, hi, hM, step_bool, gseq_succ]

end Cert.Proof.Ref
-- ==== Proof.RefRes.lean ====
/- The reference's result, whatever the launch memory: after its loop and the host lines that follow. -/
module

public import proofs.«01_k».proof.Proof.RefKeep

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

/-- The last sort's positions. -/
abbrev ixT (S : Vec Ideal S2000 .f32) : IVec S1000 32 :=
  (Host.topK S1000 0 (FloatOps.cmpfTotal (F := Ideal) (φ := .f32) .gt) S sliceFits_S2000_S1000).2

/-- The positions made nonnegative, as the start indices of a gather. -/
abbrev wrapT (S : Vec Ideal S2000 .f32) : IVec S1000x1 32 :=
  broadcastInDim S1000x1 ![0] bcast_S1000_S1000x1_0
    (select (cmpi .slt (ixT S) (broadcastInDim S1000 ![] bcast_S_S1000 (constantI S_ 32 0#32)))
      (addi (ixT S) (broadcastInDim S1000 ![] bcast_S_S1000 (constantI S_ 32 2000#32))) (ixT S))

/-- The result from the boxes and the scores. -/
abbrev outT (B : Vec Ideal S2000x4 .f32) (S : Vec Ideal S2000 .f32) : Vec Ideal S1000x5 .f32 :=
  concatenate S1000x5 1 [⟨S1000x4, Host.gather gather_S2000x4_S1000x1_S1000x4_1_0_n_n_0_1_14 B (wrapT S)⟩,
    ⟨S1000x1, broadcastInDim S1000x1 ![0] bcast_S1000_S1000x1_0
      (Host.topK S1000 0 (FloatOps.cmpfTotal (F := Ideal) (φ := .f32) .gt) S sliceFits_S2000_S1000).1⟩]
    concatenates_S1000x4_S1000x1_S1000x5_d1

theorem cat_congr {a a' : Vec Ideal S1000x4 .f32} {b b' : Vec Ideal S1000x1 .f32} (h : a = a') (h' : b = b') :
    concatenate S1000x5 1 [⟨S1000x4, a⟩, ⟨S1000x1, b⟩] concatenates_S1000x4_S1000x1_S1000x5_d1
      = concatenate S1000x5 1 [⟨S1000x4, a'⟩, ⟨S1000x1, b'⟩] concatenates_S1000x4_S1000x1_S1000x5_d1 := by
  rw [h, h']

theorem after_out (W : Valuation τ sig (Elt Ideal)) : after post2 W main_v151 = outT (W main_v80) (W main_v142) := by
  after_results_simp
  refine cat_congr ?_ ?_
  · after_results_simp
  · after_results_simp

theorem post_v80 (W : Valuation τ sig (Elt Ideal)) : after post1 (after post0 (after condOps W)) main_v80 = W main_v80 := by
  after_results_simp

theorem post_v142 (W : Valuation τ sig (Elt Ideal)) (j : Fin 2000) :
    fv (s := S2000) (after post1 (after post0 (after condOps W)) main_v142) (ix1 j)
      = Scalar.select (mv (s := S2000) (W main_v141_4) (ix1 j)) (fv (s := S2000) (W main_v96) (ix1 j)) NEG := by
  after_results_simp
  simp only [StableHlo.TRef.ofBuf_toBuf, StableHlo.TRef.toBuf, StableHlo.TRef.ofBuf, cast_cast, cast_eq]
  pointwise
  rfl

variable (A D : Vec Ideal S20000x4 .f32) (L : Vec Ideal S20000 .f32)

/-- The boxes, as one array. -/
abbrev boxesR : Vec Ideal S2000x4 .f32 := fun y => box A D L (y 0) (y 1)

theorem ixT_at (r : Fin 1000) : ixT (score A D L) (ix1 r) = BitVec.ofNat 32 (sel A D L r).val := by
  unfold ixT sel
  rw [topK_at_snd]

theorem wrapT_at (r : Fin 1000) : wrapT (score A D L) (ix2 r 0) = BitVec.ofNat 32 (sel A D L r).val := by
  pointwise
  rw [ixT_at, WordCmp.cmpi_slt_ofNat (by omega) (by norm_num)]
  rfl

theorem gathered₀ (B : Vec Ideal S2000x4 .f32) (S : Vec Ideal S2000 .f32) (r : Fin 1000) (q : Fin 4) (k : Fin 2000)
    (h : wrapT S (ix2 r 0) = BitVec.ofNat 32 k.val) :
    Host.gather gather_S2000x4_S1000x1_S1000x4_1_0_n_n_0_1_14 B (wrapT S) (ix2 r q) = B (ix2 k q) :=
  Routing.gather_row gather_S2000x4_S1000x1_S1000x4_1_0_n_n_0_1_14 rfl rfl rfl rfl rfl B (wrapT S) r q k h (by norm_num)

theorem sorted (r : Fin 1000) :
    (Host.topK S1000 0 (FloatOps.cmpfTotal (F := Ideal) (φ := .f32) .gt) (score A D L) sliceFits_S2000_S1000).1 (ix1 r)
      = score A D L (ix1 (sel A D L r)) := by
  unfold sel
  rw [topK_at_fst (by norm_num)]

theorem res_lt (r : Fin 1000) (q : Fin 5) (h : q.val < 4) : res A D L (ix2 r q) = box A D L (sel A D L r) ⟨q.val, h⟩ :=
  dif_pos h

theorem res_ge (r : Fin 1000) (q : Fin 5) (h : ¬q.val < 4) : res A D L (ix2 r q) = score A D L (ix1 (sel A D L r)) :=
  dif_neg h

theorem out_at (r : Fin 1000) (q : Fin 5) : outT (boxesR A D L) (score A D L) (ix2 r q) = res A D L (ix2 r q) := by
  pointwise
  by_cases h : q.val < 4
  · rw [dif_pos h, gathered₀ (boxesR A D L) (score A D L) r _ (sel A D L r) (wrapT_at A D L r), res_lt A D L r q h]
    rfl
  · rw [dif_neg h, sorted A D L, res_ge A D L r q h]

theorem out_eq : outT (boxesR A D L) (score A D L) = res A D L := by
  funext y
  have h := out_at A D L (y 0) (y 1)
  rwa [← eq_ix2 y] at h

/-- A kept box has positive sides, so its score is its logit. -/
theorem score_select (j : Fin 2000) :
    Scalar.select (BitVec.ofBool (gseq (sR A D L) (vR A D L) 2000 j.val))
      (Scalar.select (BitVec.ofBool (vR A D L j.val)) (L (ix1 (pos L j))) NEG) NEG = score A D L (ix1 j) := by
  unfold score
  show _ = if gseq (sR A D L) (vR A D L) 2000 j.val = true then L (ix1 (pos L j)) else NEG
  cases h : gseq (sR A D L) (vR A D L) 2000 j.val
  · rfl
  · rw [((gseq_iff _ _ _ _).mp h).1]
    rfl

variable (m : (ℓ : Loc nD τ sig) → Buf (Elt Ideal) ℓ) (c : Dev nD)

theorem final_v80 : fv (s := S2000x4) (Wk m 2000 c main_v80) = boxesR (mA m c) (mD m c) (mL m c) := by
  rw [at_v80]
  funext y
  have h := e_boxes m c (y 0) (y 1)
  rwa [← eq_ix2 y] at h

theorem final_v142_at (j : Fin 2000) :
    fv (s := S2000) (after post1 (after post0 (after condOps (Wk m 2000 c))) main_v142) (ix1 j)
      = score (mA m c) (mD m c) (mL m c) (ix1 j) := by
  rw [post_v142, keep_at m c _ 2000 le_rfl, at_v96, e_scores]
  exact score_select ..

theorem final_v142 : fv (s := S2000) (after post1 (after post0 (after condOps (Wk m 2000 c))) main_v142)
    = score (mA m c) (mD m c) (mL m c) := by
  funext y
  have h := final_v142_at m c (y 0)
  rwa [← eq_ix1 y] at h

theorem final_out : finalContents condOps preI bodyI postI 2000 m c main_v151 = res (mA m c) (mD m c) (mL m c) := by
  show after post2 (after post1 (after post0 (after condOps (Wk m 2000 c)))) main_v151 = _
  rw [after_out, post_v80]
  exact (congrArg₂ outT (final_v80 m c) (final_v142 m c)).trans (out_eq _ _ _)

/-- Every run of the reference ends with the result. -/
theorem run_res (g : Dev nD → PrngReg) : θ_run defs (onTc (τ := τ) (main (F := Ideal))) ⟨m, fun _ => 0, g⟩
    (fun r => ∀ c : Dev nD, r.2.mem ((c : Thread nD τ).loc main_v151) = res (mA m c) (mD m c) (mL m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run defs _ _).mono (fun r h c => ⟨?_, ?_, ?_, ?_⟩) (run_main m g)
  · exact (h c main_v151 rfl).trans (final_out m c)
  · exact (h c main_arg0 rfl).trans (final_main_arg0 m c)
  · exact (h c main_arg1 rfl).trans (final_main_arg1 m c)
  · exact (h c main_arg2 rfl).trans (final_main_arg2 m c)

end Cert.Proof.Ref
-- ==== Proof.Agree.lean ====
/- The two programs agree: from memories with the same arguments, no logit below the suppressed score, both end with the
   same result. -/
module

public import proofs.«01_k».proof.Defs
public import proofs.«01_k».proof.Proof.KRun
public import proofs.«01_k».proof.Proof.RefRes
public import Idealize.ShloMosaic.Adequacy
public import Idealize.ShloMosaic.Init

@[expose] public section

noncomputable section

namespace Cert.Proof

open Idealize.ShloMosaic Idealize.SL.Sem

/-- The precondition's shape fact. -/
theorem preFacts : Cert.Pre_logits_not_below_neg.Facts := ⟨by decide⟩

theorem of_pre [Cert.Pre_logits_not_below_neg.Facts] (a d : Vec Ideal Cert.KernelIdeal.S20000x4 .f32) (L : Vec Ideal Cert.KernelIdeal.S20000 .f32)
    (h : Cert.Pre_logits_not_below_neg.fn (F := Ideal) a L d = fun _ => 1#1) (k : Cert.KernelIdeal.S20000.Idx) : NEG ≤ L k := by
  have hk : BitVec.ofBool (decide (NEG ≤ L k)) = 1#1 := congrFun h k
  by_contra hn
  rw [decide_eq_false hn] at hk
  exact absurd hk (by decide)

open Cert.KernelIdeal in
/-- Every run of the kernel ends with the result and its arguments as launched. -/
theorem kernel_run (m : (ℓ : Loc nD τ sig) → Buf (Elt Ideal) ℓ) (g : Dev nD → PrngReg)
    (hL : ∀ c k, NEG ≤ Ker.mL m c k) :
    θ_run defs (onTc (τ := τ) (main (F := Ideal))) ⟨m, fun _ => 0, g⟩ (fun r => ∀ c : Dev nD,
      r.2.mem ((c.tc : Thread nD τ).loc main_v32) = res (Ker.mA m c) (Ker.mD m c) (Ker.mL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨h.1 c, h.2.1 c⟩) (θ_run_and (Ker.run_res m g hL) (Gen.frame m g))

theorem agree (hp : Cert.Pre_logits_not_below_neg.Facts) :
    Cert.algebraic_KernelIdeal_ReferenceIdeal_pre_logits_not_below_neg (hKernelIdeal := Cert.KernelIdeal.Gen.facts)
      (hReferenceIdeal := Cert.ReferenceIdeal.Gen.facts) (hPre_logits_not_below_neg := hp) := by
  intro m g m' g' hpre hargs
  refine ⟨fun c => res (Ker.mA m c) (Ker.mD m c) (Ker.mL m c), kernel_run m g fun c k => of_pre _ _ _ (hpre c) k, ?_⟩
  refine (θ_run _ _ _).mono (fun r h c => ⟨(h c).1.trans ?_, (h c).2⟩) (Ref.run_res m' g')
  obtain ⟨h0, h1, h2⟩ := hargs c
  exact congr (congr (congrArg res h0) h2) h1

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, fun m ρ _ => Ref.frame m ρ, fun m ρ _ => Ref.frame m ρ, trivial,
    agree preFacts⟩

end Cert.Proof

end
